-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
      ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2)
      ∧ r.2.mem ((c.tc : Thread Cert.SiluIdeal.nD Cert.SiluIdeal.τ).loc Cert.SiluIdeal.main_arg3) = m ((c.tc : Thread Cert.SiluIdeal.nD Cert.SiluIdeal.τ).loc Cert.SiluIdeal.main_arg3))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)
      ∧ m ((c.tc : Thread Cert.KernelIdeal.nD Cert.KernelIdeal.τ).loc Cert.KernelIdeal.main_arg2) = m' (((0 : Dev Cert.SiluIdeal.nD).tc : Thread Cert.SiluIdeal.nD Cert.SiluIdeal.τ).loc Cert.SiluIdeal.main_arg2)
      ∧ m ((c.tc : Thread Cert.KernelIdeal.nD Cert.KernelIdeal.τ).loc Cert.KernelIdeal.main_arg3) = m' (((0 : Dev Cert.SiluIdeal.nD).tc : Thread Cert.SiluIdeal.nD Cert.SiluIdeal.τ).loc Cert.SiluIdeal.main_arg3)) →
    ∃ (v0 : Buf (Elt Ideal) (((0 : Dev Cert.SiluIdeal.nD).tc : Thread Cert.SiluIdeal.nD Cert.SiluIdeal.τ).loc Cert.SiluIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v9) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1)
          ∧ r.2.mem (((0 : Dev Cert.SiluIdeal.nD).tc : Thread Cert.SiluIdeal.nD Cert.SiluIdeal.τ).loc Cert.SiluIdeal.main_arg2) = m' (((0 : Dev Cert.SiluIdeal.nD).tc : Thread Cert.SiluIdeal.nD Cert.SiluIdeal.τ).loc Cert.SiluIdeal.main_arg2)
          ∧ r.2.mem (((0 : Dev Cert.SiluIdeal.nD).tc : Thread Cert.SiluIdeal.nD Cert.SiluIdeal.τ).loc Cert.SiluIdeal.main_arg3) = m' (((0 : Dev Cert.SiluIdeal.nD).tc : Thread Cert.SiluIdeal.nD Cert.SiluIdeal.τ).loc Cert.SiluIdeal.main_arg3))

def Claim : Prop :=
  ∃ (hKernel : Cert.Kernel.Facts) (hKernelIdeal : Cert.KernelIdeal.Facts) (hReferenceIdeal : Cert.ReferenceIdeal.Facts) (hSiluIdeal : Cert.SiluIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ quiescent_SiluIdeal (hSiluIdeal := hSiluIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
    ∧ algebraic_KernelIdeal_SiluIdeal (hKernelIdeal := hKernelIdeal) (hSiluIdeal := hSiluIdeal)
-- ==== Pre_within_clip_KernelIdeal.lean ====
abbrev S1024x4096 : Shape := ⟨2, ![1024, 4096]⟩
abbrev S4096x2048 : Shape := ⟨2, ![4096, 2048]⟩
abbrev S1 : Shape := ⟨1, ![1]⟩
abbrev S1024x2048 : Shape := ⟨2, ![1024, 2048]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S1024x2048_0_1 : S1x1.BroadcastsInDim S1024x2048 (![0, 1] : Fin 2 → Fin S1024x2048.rank)
  bcast_S_S1024x2048 : S_.BroadcastsInDim S1024x2048 (![] : Fin 0 → Fin S1024x2048.rank)
  dot_S1024x4096_S4096x2048_S1024x2048_1_0_0_1_n_n_wf : DotDims.WF S1024x4096 S4096x2048 S1024x2048 [1] [0] [0] [1] [] []

variable [Facts]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf
def fn {F : FTy → Type} [FloatOps F] (main_arg0 : FVec F S1024x4096 .f32) (main_arg1 : FVec F S4096x2048 .f32) (main_arg2 : FVec F S1 .f32) (main_arg3 : FVec F S1 .f32) : IVec S1024x2048 1 :=
  let main_v0 : FVec F S1024x2048 .f32 := (fun l r => Host.dotGeneral dot_S1024x4096_S4096x2048_S1024x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S1024x2048 .f32 := broadcastInDim S1024x2048 ![0, 1] bcast_S1x1_S1024x2048_0_1 main_v2
  let main_v4 : FVec F S1024x2048 .f32 := mulf main_v0 main_v3
  let main_cst : FVec F S_ .f32 := constant S_ .f32 0xC2700000#32
  let main_v5 : FVec F S1024x2048 .f32 := broadcastInDim S1024x2048 ![] bcast_S_S1024x2048 main_cst
  let main_v6 : IVec S1024x2048 1 := cmpf .oge main_v4 main_v5
  let main_cst_0 : FVec F S_ .f32 := constant S_ .f32 0x42700000#32
  let main_v7 : FVec F S1024x2048 .f32 := broadcastInDim S1024x2048 ![] bcast_S_S1024x2048 main_cst_0
  let main_v8 : IVec S1024x2048 1 := cmpf .ole main_v4 main_v7
  let main_v9 : IVec S1024x2048 1 := andi main_v6 main_v8
  main_v9
-- ==== Pre_within_clip_ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) (main_arg2 : FVec F S1 .f32) (main_arg3 : FVec F S1 .f32) : IVec S4096x2048 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_cst : FVec F S_ .f32 := constant S_ .f32 0xC2700000#32
  let main_v5 : FVec F S4096x2048 .f32 := broadcastInDim S4096x2048 ![] bcast_S_S4096x2048 main_cst
  let main_v6 : IVec S4096x2048 1 := cmpf .oge main_v4 main_v5
  let main_cst_0 : FVec F S_ .f32 := constant S_ .f32 0x42700000#32
  let main_v7 : FVec F S4096x2048 .f32 := broadcastInDim S4096x2048 ![] bcast_S_S4096x2048 main_cst_0
  let main_v8 : IVec S4096x2048 1 := cmpf .ole main_v4 main_v7
  let main_v9 : IVec S4096x2048 1 := andi main_v6 main_v8
  main_v9
-- ==== Kernel.lean ====
abbrev S1024x4096 : Shape := ⟨2, ![1024, 4096]⟩
abbrev S4096x2048 : Shape := ⟨2, ![4096, 2048]⟩
abbrev S1 : Shape := ⟨1, ![1]⟩
abbrev S4096x512 : Shape := ⟨2, ![4096, 512]⟩
abbrev S3x1024x512 : Shape := ⟨3, ![3, 1024, 512]⟩
abbrev S4x1024x512 : Shape := ⟨3, ![4, 1024, 512]⟩
abbrev S2x4096x512 : Shape := ⟨3, ![2, 4096, 512]⟩
abbrev S3 : Shape := ⟨1, ![3]⟩
abbrev S4 : Shape := ⟨1, ![4]⟩
abbrev S2 : Shape := ⟨1, ![2]⟩
abbrev S_ : Shape := ⟨0, ![]⟩
abbrev S1x4096x512 : Shape := ⟨3, ![1, 4096, 512]⟩
abbrev S1024x512 : Shape := ⟨2, ![1024, 512]⟩
abbrev S1x1024x512 : Shape := ⟨3, ![1, 1024, 512]⟩

abbrev nBuf : Space → Nat
  | .hbm => 5
  | .vmem => 5
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S3x1024x512, .bf16⟩
  | .local _ .vmem, ⟨3, _⟩ => ⟨S4x1024x512, .bf16⟩
  | .local _ .vmem, ⟨4, _⟩ => ⟨S2x4096x512, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) : Fin 2 → Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c512_i32 : BitVec 32 := 512#32
  let v5 : BitVec 32 := Scalar.muli v4 c512_i32
  ![0, v5.toNat]
def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v12 : BitVec 32 := Scalar.addi v2 c1_i32_6
  let c4_i32_7 : BitVec 32 := 4#32
  let c0_i32_8 : BitVec 32 := 0#32
  let v13 : BitVec 1 := Scalar.cmpi .eq c4_i32_7 c0_i32_8
  let c1_i32_9 : BitVec 32 := 1#32
  let v14 : BitVec 32 := Scalar.select v13 c1_i32_9 c4_i32_7
  let v15 : BitVec 32 := Scalar.remsi v12 v14
  let c0_i32_11 : BitVec 32 := 0#32
  let v17 : BitVec 1 := Scalar.cmpi .slt v15 c0_i32_11
  let c0_i32_12 : BitVec 32 := 0#32
  let v18 : BitVec 1 := Scalar.cmpi .slt v14 c0_i32_12
  let v19 : BitVec 1 := Scalar.xori v17 v18
  let c0_i32_10 : BitVec 32 := 0#32
  let v16 : BitVec 1 := Scalar.cmpi .ne v15 c0_i32_10
  let v20 : BitVec 1 := Scalar.andi v19 v16
  let v21 : BitVec 32 := Scalar.addi v15 v14
  let v22 : BitVec 32 := Scalar.select v20 v21 v15
  let c1_i32_14 : BitVec 32 := 1#32
  let v23 : BitVec 32 := Scalar.muli v22 c1_i32_14
  let v24 : BitVec 32 := Scalar.addi c0_i32_15 v23
  v24.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_16 : BitVec 32 := 4#32
  let c0_i32_17 : BitVec 32 := 0#32
  let v26 : BitVec 1 := Scalar.cmpi .eq c4_i32_16 c0_i32_17
  let c1_i32_18 : BitVec 32 := 1#32
  let v27 : BitVec 32 := Scalar.select v26 c1_i32_18 c4_i32_16
  let v28 : BitVec 32 := Scalar.remsi v25 v27
  let c0_i32_20 : BitVec 32 := 0#32
  let v30 : BitVec 1 := Scalar.cmpi .slt v28 c0_i32_20
  let c0_i32_21 : BitVec 32 := 0#32
  let v31 : BitVec 1 := Scalar.cmpi .slt v27 c0_i32_21
  let v32 : BitVec 1 := Scalar.xori v30 v31
  let c0_i32_19 : BitVec 32 := 0#32
  let v29 : BitVec 1 := Scalar.cmpi .ne v28 c0_i32_19
  let v33 : BitVec 1 := Scalar.andi v32 v29
  let v34 : BitVec 32 := Scalar.addi v28 v27
  let v35 : BitVec 32 := Scalar.select v33 v34 v28
  let c1_i32_23 : BitVec 32 := 1#32
  let v36 : BitVec 32 := Scalar.muli v35 c1_i32_23
  let v37 : BitVec 32 := Scalar.addi c0_i32_24 v36
  v37.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v38 : BitVec 32 := Scalar.addi v2 c3_i32
  let c4_i32_25 : BitVec 32 := 4#32
  let c0_i32_26 : BitVec 32 := 0#32
  let v39 : BitVec 1 := Scalar.cmpi .eq c4_i32_25 c0_i32_26
  let c1_i32_27 : BitVec 32 := 1#32
  let v40 : BitVec 32 := Scalar.select v39 c1_i32_27 c4_i32_25
  let v41 : BitVec 32 := Scalar.remsi v38 v40
  let c0_i32_29 : BitVec 32 := 0#32
  let v43 : BitVec 1 := Scalar.cmpi .slt v41 c0_i32_29
  let c0_i32_30 : BitVec 32 := 0#32
  let v44 : BitVec 1 := Scalar.cmpi .slt v40 c0_i32_30
  let v45 : BitVec 1 := Scalar.xori v43 v44
  let c0_i32_28 : BitVec 32 := 0#32
  let v42 : BitVec 1 := Scalar.cmpi .ne v41 c0_i32_28
  let v46 : BitVec 1 := Scalar.andi v45 v42
  let v47 : BitVec 32 := Scalar.addi v41 v40
  let v48 : BitVec 32 := Scalar.select v46 v47 v41
  let c1_i32_32 : BitVec 32 := 1#32
  let v49 : BitVec 32 := Scalar.muli v48 c1_i32_32
  let v50 : BitVec 32 := Scalar.addi c0_i32_33 v49
  v50.toNat
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_66 : BitVec 32 := 0#32
  let c0_i32_67 : BitVec 32 := 0#32
  ![v2.toNat, 0, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v85 : BitVec 32 := Scalar.addi v2 c1_i32_60
  let c4_i32_61 : BitVec 32 := 4#32
  let v86 : BitVec 32 := Scalar.remsi v85 c4_i32_61
  let c1_i32_64 : BitVec 32 := 1#32
  let v87 : BitVec 32 := Scalar.muli v86 c1_i32_64
  let v88 : BitVec 32 := Scalar.addi c0_i32_65 v87
  v88.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_92 : BitVec 32 := 3#32
  let v125 : BitVec 32 := Scalar.addi v2 c3_i32_92
  let c4_i32_93 : BitVec 32 := 4#32
  let v126 : BitVec 32 := Scalar.remsi v125 c4_i32_93
  let c1_i32_96 : BitVec 32 := 1#32
  let v127 : BitVec 32 := Scalar.muli v126 c1_i32_96
  let v128 : BitVec 32 := Scalar.addi c0_i32_97 v127
  v128.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_124 : BitVec 32 := 2#32
  let v165 : BitVec 32 := Scalar.addi v2 c2_i32_124
  let c4_i32_125 : BitVec 32 := 4#32
  let v166 : BitVec 32 := Scalar.remsi v165 c4_i32_125
  let c1_i32_128 : BitVec 32 := 1#32
  let v167 : BitVec 32 := Scalar.muli v166 c1_i32_128
  let v168 : BitVec 32 := Scalar.addi c0_i32_129 v167
  v168.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v193 : BitVec 32 := Scalar.muli v2 c1024_i32
  let v194 : Index := Scalar.indexCast v193
  let c0_146 : Index := 0#32
  ![v194.toNat, 0]
def k0_off5 (d0 : Dev nD) (c3_i32_147 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.addi v2 c3_i32_147
  let c4_i32_148 : BitVec 32 := 4#32
  let v197 : BitVec 32 := Scalar.remsi v196 c4_i32_148
  ![v197.toNat]
def k0_off6 (d0 : Dev nD) (c3_i32_147 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.addi v2 c3_i32_147
  let c4_i32_148 : BitVec 32 := 4#32
  let v197 : BitVec 32 := Scalar.remsi v196 c4_i32_148
  let c0_i32_153 : BitVec 32 := 0#32
  let c0_i32_154 : BitVec 32 := 0#32
  ![v197.toNat, 0, 0]
def k0_off7 (d0 : Dev nD) (c3_i32_147 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.addi v2 c3_i32_147
  let c4_i32_148 : BitVec 32 := 4#32
  let v197 : BitVec 32 := Scalar.remsi v196 c4_i32_148
  let v206 : Index := Scalar.indexCast v197
  let c0_157 : Index := 0#32
  let c0_158 : Index := 0#32
  ![v206.toNat, 0, 0]
def k0_off8 (d0 : Dev nD) (c3_i32_147 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v196 : BitVec 32 := Scalar.addi v2 c3_i32_147
  let c4_i32_148 : BitVec 32 := 4#32
  let v197 : BitVec 32 := Scalar.remsi v196 c4_i32_148
  let c1024_i32_159 : BitVec 32 := 1024#32
  let v210 : BitVec 32 := Scalar.muli v197 c1024_i32_159
  let v211 : Index := Scalar.indexCast v210
  let c0_160 : Index := 0#32
  ![v211.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== SiluIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Protocol.lean ====
/-
# The exchange protocol of the kernel on four devices

Every device computes, for each device `t`, the block `silu ((x @ w[:, t's columns]) * scale)` of its own rows, keeps
the block for itself in the output and sends the three others, rounded to bf16, into slot `c` of the peer's receive
buffer.  The semaphores of a device `c` and what each of them hands over:

* the barrier (regular, level 1): each peer `o ≠ c` adds one unit after it has entered the kernel, and hands over slot
  `c` of ITS receive buffer with the knowledge that its receive cell `c` is in round 0; `c` waits for 3;
* send cell `d` (DMA, level 0): `c`'s own transfer `d` returns slot `d` of the send buffer;
* receive cell `o` (DMA, level 2, `o ≠ c`): device `o`'s transfer hands over slot `o` of the receive buffer, holding
  the block that `o` computed for `c`; cell `c` itself is never used;
* weight cell `s` (DMA, level 0), two rounds: `c`'s own copy of a column block of `w` into slot `s` hands over the slot
  holding that column block, and returns the columns of `w` that were read.

A duty is named by the device that pays it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's, whose duties are named by devices -/

abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## Devices -/

set_option backward.proofsInPublic true in
/-- The device `k` places after `c` around the four. -/
def rot (k : ℕ) (c : Dev nD) : Dev nD := ⟨(c.val + k) % 4, Nat.mod_lt _ (by decide)⟩

/-- The peers named by the kernel's printed device arithmetic: signals go 1, 2, 3 places on, transfers 1, 3, 2. -/
theorem dev1_eq (c : Dev nD) : (⟨k0_dev1 c, k0_dev1_lt c⟩ : Dev nD) = rot 1 c := by revert c; decide
theorem dev2_eq (c : Dev nD) : (⟨k0_dev2 c, k0_dev2_lt c⟩ : Dev nD) = rot 2 c := by revert c; decide
theorem dev3_eq (c : Dev nD) : (⟨k0_dev3 c, k0_dev3_lt c⟩ : Dev nD) = rot 3 c := by revert c; decide
theorem dev4_eq (c : Dev nD) : (⟨k0_dev4 c, k0_dev4_lt c⟩ : Dev nD) = rot 1 c := by revert c; decide
theorem dev5_eq (c : Dev nD) : (⟨k0_dev5 c, k0_dev5_lt c⟩ : Dev nD) = rot 3 c := by revert c; decide
theorem dev6_eq (c : Dev nD) : (⟨k0_dev6 c, k0_dev6_lt c⟩ : Dev nD) = rot 2 c := by revert c; decide

/-! ## The buffers, their slots and the column blocks of `w` -/

abbrev wM : Memref sig .tc .hbm S4096x2048 .f32 := Memref.whole main_arg1
abbrev xM : Memref sig .tc .vmem S1024x4096 .f32 := Memref.whole cc0_stg0_0
abbrev pM : Memref sig .tc .smem S1 .f32 := Memref.whole cc0_stg1_0
abbrev qM : Memref sig .tc .smem S1 .f32 := Memref.whole cc0_stg2_0
abbrev oM : Memref sig .tc .vmem S4096x512 .f32 := Memref.whole cc0_stg3_0
abbrev sB : Memref sig .tc .vmem S3x1024x512 .bf16 := Memref.whole cc0_scratch0
abbrev rB : Memref sig .tc .vmem S4x1024x512 .bf16 := Memref.whole cc0_scratch1
abbrev wB : Memref sig .tc .vmem S2x4096x512 .f32 := Memref.whole cc0_scratch2

set_option backward.proofsInPublic true in
theorem inb_s (d : Fin 3) : ∀ a, ![d.val, 0, 0] a + S1x1024x512.size a ≤ S3x1024x512.size a := by revert d; decide
set_option backward.proofsInPublic true in
theorem inb_r (o : Fin 4) : ∀ a, ![o.val, 0, 0] a + S1x1024x512.size a ≤ S4x1024x512.size a := by revert o; decide
set_option backward.proofsInPublic true in
theorem inb_w (s : Fin 2) : ∀ a, ![s.val, 0, 0] a + S1x4096x512.size a ≤ S2x4096x512.size a := by revert s; decide
set_option backward.proofsInPublic true in
theorem inb_c (t : Fin 4) : ∀ a, ![0, 512 * t.val] a + S4096x512.size a ≤ S4096x2048.size a := by revert t; decide
set_option backward.proofsInPublic true in
theorem inb_o (t : Fin 4) : ∀ a, ![1024 * t.val, 0] a + S1024x512.size a ≤ S4096x512.size a := by revert t; decide

abbrev sR (d : Fin 3) : Rect S3x1024x512 := Rect.unit (s := S3x1024x512) ![d.val, 0, 0] S1x1024x512.size (inb_s d)
abbrev rR (o : Fin 4) : Rect S4x1024x512 := Rect.unit (s := S4x1024x512) ![o.val, 0, 0] S1x1024x512.size (inb_r o)
abbrev wR (s : Fin 2) : Rect S2x4096x512 := Rect.unit (s := S2x4096x512) ![s.val, 0, 0] S1x4096x512.size (inb_w s)
abbrev cR (t : Fin 4) : Rect S4096x2048 := Rect.unit (s := S4096x2048) ![0, 512 * t.val] S4096x512.size (inb_c t)
abbrev oR (t : Fin 4) : Rect S4096x512 := Rect.unit (s := S4096x512) ![1024 * t.val, 0] S1024x512.size (inb_o t)

/-- Slot `d` of the send buffer, slot `o` of the receive buffer, slot `s` of the weight buffer. -/
abbrev sSl (d : Fin 3) : Memref sig .tc .vmem S1024x512 .bf16 := (sB.slice (sR d) (fun _ => rfl)).squeeze S1024x512 squeezes_S1x1024x512_S1024x512
abbrev rSl (o : Fin 4) : Memref sig .tc .vmem S1024x512 .bf16 := (rB.slice (rR o) (fun _ => rfl)).squeeze S1024x512 squeezes_S1x1024x512_S1024x512
abbrev wSl (s : Fin 2) : Memref sig .tc .vmem S4096x512 .f32 := (wB.slice (wR s) (fun _ => rfl)).squeeze S4096x512 squeezes_S1x4096x512_S4096x512
/-- Column block `t` of `w`. -/
abbrev wCl (t : Fin 4) : Memref sig .tc .hbm S4096x512 .f32 := wM.slice (cR t) (fun _ => rfl)

/-! ## The cells -/

/-- The barrier semaphore every device of the mesh shares by name. -/
abbrev barS : Sem sig := (SemArray.scalar (sig.barrier 0 rfl) : Sems sig S_).sem

set_option backward.proofsInPublic true in
/-- The DMA semaphores of the exchange, numbered: sends 1 … 3, receives 4 … 7, weights 8, 9. -/
def qS (k : Fin 10) : DmaSem sig := ⟨k.val + 3, by have := k.isLt; show k.val + 3 < 13; omega⟩

/-- The ten semaphores of a device, the barrier first. -/
def csem (k : Fin 10) : SemLoc sig := if k = 0 then .reg barS else .dma (qS k)

abbrev kcell (ck : Dev nD × Fin 10) : GSem nD τ sig := ((ck.1 : Thread nD τ), csem ck.2)

set_option backward.proofsInPublic true in
def sK (d : Fin 3) : Fin 10 := ⟨1 + d.val, by omega⟩
set_option backward.proofsInPublic true in
def rK (o : Dev nD) : Fin 10 := ⟨4 + o.val, by have h : o.val < 4 := o.isLt; omega⟩
set_option backward.proofsInPublic true in
def wK (s : Fin 2) : Fin 10 := ⟨8 + s.val, by omega⟩

theorem csem_inj : Function.Injective csem := by decide
theorem csem_zero : csem 0 = .reg barS := rfl
theorem csem_sK (d : Fin 3) : csem (sK d) = .dma (qS (sK d)) := by revert d; decide
theorem csem_rK (o : Dev nD) : csem (rK o) = .dma (qS (rK o)) := by revert o; decide
theorem csem_wK (s : Fin 2) : csem (wK s) = .dma (qS (wK s)) := by revert s; decide

theorem kcell_injective : Function.Injective (kcell : Dev nD × Fin 10 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The number of the cell a semaphore is, if it is one of the exchange's. -/
def kindOf (s : SemLoc sig) : Option (Fin 10) :=
  [0, 1, 2, 3, 4, 5, 6, 7, 8, 9].find? fun k => decide (csem k = s)
theorem kindOf_csem (k : Fin 10) : kindOf (csem k) = some k := by revert k; decide

/-! ## Contents -/

/-- Device `c`'s column block `t` of `w`, in the memory at launch. -/
def wcols (c : Dev nD) (t : Fin 4) : Vec F S4096x512 .f32 :=
  (wCl t).view.read (Elt F) (m ((c : Thread nD τ).loc main_arg1))

/-- Device `c`'s rows of `x`. -/
def xrows (c : Dev nD) : Vec F S1024x4096 .f32 := m ((c : Thread nD τ).loc main_arg0)

set_option backward.proofsInPublic true in
/-- The only index of a one-element array. -/
def ix1 : S1.Idx := fun a => ⟨0, by revert a; decide⟩
/-- The product of the two scales on device `c`. -/
def scl (c : Dev nD) : F .f32 :=
  k0_pay1 ((m ((c : Thread nD τ).loc main_arg2) : Vec F S1 .f32) ix1) ((m ((c : Thread nD τ).loc main_arg3) : Vec F S1 .f32) ix1)

/-- The f32 block: `y * logistic y` at `y = (x @ w) * s`. -/
def fblk (s : F .f32) (x : FVec F S1024x4096 .fp8e5m2) (w : Vec F S4096x512 .f32) : FVec F S1024x512 .f32 :=
  mulf (mulf (matmul dot_S1024x4096_S4096x512_S1024x512_1_0_0_1_n_n none x (truncf .fp8e5m2 w bitsLt_fp8e5m2_f32) (constant S1024x512 .f32 0x00000000#32)) (broadcast S1024x512 s))
    (logistic (mulf (matmul dot_S1024x4096_S4096x512_S1024x512_1_0_0_1_n_n none x (truncf .fp8e5m2 w bitsLt_fp8e5m2_f32) (constant S1024x512 .f32 0x00000000#32)) (broadcast S1024x512 s)))

/-- The same rounded to bf16, which is what is sent. -/
def hblk (s : F .f32) (x : FVec F S1024x4096 .fp8e5m2) (w : Vec F S4096x512 .f32) : FVec F S1024x512 .bf16 :=
  truncf .bf16 (fblk s x w) bitsLt_bf16_f32

/-- The block device `o` computes for device `t`, as sent. -/
def sent (o : Dev nD) (t : Fin 4) : FVec F S1024x512 .bf16 := hblk (scl m o) (k0_pay2 (xrows m o)) (wcols m o t)

/-- The block device `c` keeps. -/
def kept (c : Dev nD) : FVec F S1024x512 .f32 := fblk (scl m c) (k0_pay2 (xrows m c)) (wcols m c c)

/-- Row block `o` of the output of device `c`. -/
def oblk (c o : Dev nD) : FVec F S1024x512 .f32 := if o = c then kept m c else extf .f32 (sent m o c) bitsLt_bf16_f32

/-! ## The schedule -/

/-- Which column block the copy of round `r` into weight slot `s` of device `c` brings: 1, 3, 2 and 0 places on. -/
def wblk (c : Dev nD) (s : Fin 2) (r : ℕ) : Fin 4 := if r = 0 then (if s = 0 then rot 1 c else rot 3 c) else (if s = 0 then rot 2 c else rot 0 c)

/-- Which device transfer `d` of device `c` goes to: 1, 3 and 2 places on. -/
def peer (d : Fin 3) (c : Dev nD) : Dev nD := if d = 0 then rot 1 c else if d = 1 then rot 3 c else rot 2 c

/-- Slot `o` of device `c`'s receive buffer, at some contents. -/
def rAny (c : Dev nD) (o : Fin 4) : sProp 𝕄 := ownsSat (c : Thread nD τ) (rSl o) fullShare (fun _ => True)
/-- Column block `t` of device `c`'s `w`, as launched. -/
def wHeld (c : Dev nD) (t : Fin 4) : sProp 𝕄 :=
  (wCl t).view.loc (c : Thread nD τ) ↦[(wCl t).view.set]{fullShare} (m ((c : Thread nD τ).loc main_arg1))

def barPay (c o : Dev nD) : sProp 𝕄 := iprop(rAny o c ∗ reached EX (kcell (o, rK c)) 0)
def sendPay (c : Dev nD) (d : Fin 3) : sProp 𝕄 := owns (c : Thread nD τ) (sSl d) fullShare (sent m c (peer d c))
def recvPay (c o : Dev nD) : sProp 𝕄 := owns (c : Thread nD τ) (rSl o) fullShare (sent m o c)
def wPay (c : Dev nD) (s : Fin 2) (r : ℕ) : sProp 𝕄 :=
  iprop(owns (c : Thread nD τ) (wSl s) fullShare (wcols m c (wblk c s r)) ∗ wHeld m c (wblk c s r))

instance rAny_storable (c : Dev nD) (o : Fin 4) : BI.Storable (upEmb : UEmb _ 𝕄) (rAny (F := F) c o) := by unfold rAny; infer_instance
instance wHeld_storable (c : Dev nD) (t : Fin 4) : BI.Storable (upEmb : UEmb _ 𝕄) (wHeld (F := F) m c t) := by unfold wHeld; infer_instance
instance barPay_storable (c o : Dev nD) : BI.Storable (upEmb : UEmb _ 𝕄) (barPay (F := F) c o) := by unfold barPay; infer_instance
instance sendPay_storable (c : Dev nD) (d : Fin 3) : BI.Storable (upEmb : UEmb _ 𝕄) (sendPay (F := F) m c d) := by unfold sendPay owns; infer_instance
instance recvPay_storable (c o : Dev nD) : BI.Storable (upEmb : UEmb _ 𝕄) (recvPay (F := F) m c o) := by unfold recvPay owns; infer_instance
instance wPay_storable (c : Dev nD) (s : Fin 2) (r : ℕ) : BI.Storable (upEmb : UEmb _ 𝕄) (wPay (F := F) m c s r) := by unfold wPay owns; infer_instance

/-- The bytes' credit of one 1024×512 bf16 block, and of one 4096×512 f32 block. -/
abbrev NB : ℕ := (rSl 0).view.dmaCredit
abbrev NW : ℕ := (wSl 0).view.dmaCredit
theorem NB_pos : 0 < NB := View.dmaCredit_pos _ (by decide)
theorem NW_pos : 0 < NW := View.dmaCredit_pos _ (by decide)

/-- Who pays what on cell `k` of device `c` in round `r`. -/
def dutK (c : Dev nD) (k : Fin 10) (r : ℕ) : Finset (Dev nD) :=
  if k = 0 then (if r = 0 then Finset.univ.erase c else ∅)
  else if k.val < 4 then (if r = 0 then {c} else ∅)
  else if k.val < 8 then (if r = 0 ∧ k.val ≠ 4 + c.val then {⟨(k.val - 4) % 4, Nat.mod_lt _ (by decide)⟩} else ∅)
  else (if r < 2 then {c} else ∅)
def amtK (k : Fin 10) : ℕ := if k = 0 then 1 else if k.val < 8 then NB else NW
def payK (c : Dev nD) (k : Fin 10) (r : ℕ) (o : Dev nD) : sProp 𝕄 :=
  if k = 0 then barPay c o
  else if k.val < 4 then sendPay m c ⟨(k.val - 1) % 3, Nat.mod_lt _ (by decide)⟩
  else if k.val < 8 then recvPay m c ⟨(k.val - 4) % 4, Nat.mod_lt _ (by decide)⟩
  else wPay m c ⟨(k.val - 8) % 2, Nat.mod_lt _ (by decide)⟩ r

instance payK_storable (c : Dev nD) (k : Fin 10) (r : ℕ) (o : Dev nD) : BI.Storable (upEmb : UEmb _ 𝕄) (payK (F := F) m c k r o) := by
  unfold payK; (repeat' split) <;> infer_instance

def Xs : Rounds.Schedule (GSem nD τ sig) (Dev nD) 𝕄 where
  duties g r := if g.1.2 = .tc then (match kindOf g.2 with | some k => dutK g.1.1 k r | none => ∅) else ∅
  unitless _ := False
  amount g _ _ := match kindOf g.2 with | some k => amtK k | none => 1
  payload g r o := match kindOf g.2 with | some k => payK m g.1.1 k r o | none => iprop(emp)
  amount_pos g _ _ _ := by
    cases kindOf g.2 with
    | none => exact Nat.one_pos
    | some k =>
      show 0 < amtK k
      unfold amtK; split
      · exact Nat.one_pos
      · split
        · exact NB_pos
        · exact NW_pos

instance Xs_payload_storable (g : GSem nD τ sig) (r : ℕ) (o : Dev nD) : BI.Storable (upEmb : UEmb _ 𝕄) ((Xs (F := F) m).payload g r o) := by
  show BI.Storable upEmb (match kindOf g.2 with | some k => payK m g.1.1 k r o | none => iprop(emp))
  cases kindOf g.2 <;> infer_instance

/-! ### Its tables -/

theorem duties_k (c : Dev nD) (k : Fin 10) (r : ℕ) : (Xs (F := F) m).duties (kcell (c, k)) r = dutK c k r := by
  show (if ((c : Thread nD τ)).2 = .tc then (match kindOf (csem k) with | some k => dutK c k r | none => ∅) else ∅) = _
  rw [if_pos rfl, kindOf_csem]
theorem amount_k (c : Dev nD) (k : Fin 10) (r : ℕ) (o : Dev nD) : (Xs (F := F) m).amount (kcell (c, k)) r o = amtK k := by
  show (match kindOf (csem k) with | some k => amtK k | none => 1) = _
  rw [kindOf_csem]
theorem payload_k (c : Dev nD) (k : Fin 10) (r : ℕ) (o : Dev nD) : (Xs (F := F) m).payload (kcell (c, k)) r o = payK m c k r o := by
  show (match kindOf (csem k) with | some k => payK m c k r o | none => iprop(emp)) = _
  rw [kindOf_csem]

theorem dut_bar (c : Dev nD) : dutK c 0 0 = Finset.univ.erase c := rfl
theorem dut_s (c : Dev nD) (d : Fin 3) : dutK c (sK d) 0 = {c} := by revert c d; decide
theorem dut_r (c o : Dev nD) (h : o ≠ c) : dutK c (rK o) 0 = {o} := by revert c o; decide
theorem dut_w (c : Dev nD) (s : Fin 2) (r : ℕ) (hr : r < 2) : dutK c (wK s) r = {c} := by
  unfold dutK
  rw [if_neg (by revert s; decide), if_neg (by revert s; decide), if_neg (by revert s; decide), if_pos hr]
theorem dut_later (c : Dev nD) (k : Fin 10) (r : ℕ) (h : 2 ≤ r) : dutK c k r = ∅ := by
  unfold dutK
  rw [if_neg (by omega : ¬ r = 0), if_neg (by omega : ¬ r = 0), if_neg (by omega : ¬ (r = 0 ∧ _)), if_neg (by omega : ¬ r < 2)]
  simp only [ite_self]
theorem dut_later1 (c : Dev nD) (k : Fin 10) (hk : k.val < 8) (r : ℕ) (h : 1 ≤ r) : dutK c k r = ∅ := by
  unfold dutK
  rw [if_neg (by omega : ¬ r = 0), if_neg (by omega : ¬ r = 0), if_neg (by omega : ¬ (r = 0 ∧ _)), if_pos hk]
  simp only [ite_self]
theorem dut_self (c : Dev nD) (r : ℕ) : dutK c (rK c) r = ∅ := by
  unfold dutK
  rw [if_neg (by revert c; decide), if_neg (by revert c; decide), if_pos (by revert c; decide), if_neg (fun h => h.2 rfl)]

theorem amt_bar : amtK 0 = 1 := rfl
theorem amt_s (d : Fin 3) : amtK (sK d) = NB := by unfold amtK; rw [if_neg (by revert d; decide), if_pos (by revert d; decide)]
theorem amt_r (o : Dev nD) : amtK (rK o) = NB := by unfold amtK; rw [if_neg (by revert o; decide), if_pos (by revert o; decide)]
theorem amt_w (s : Fin 2) : amtK (wK s) = NW := by unfold amtK; rw [if_neg (by revert s; decide), if_neg (by revert s; decide)]

theorem pay_bar (c o : Dev nD) (r : ℕ) : payK (F := F) m c 0 r o = barPay c o := rfl
theorem pay_s (c : Dev nD) (d : Fin 3) (r : ℕ) (o : Dev nD) : payK (F := F) m c (sK d) r o = sendPay m c d := by
  unfold payK; rw [if_neg (by revert d; decide), if_pos (by revert d; decide)]
  congr 1; revert d; decide
theorem pay_r (c o' : Dev nD) (r : ℕ) (o : Dev nD) : payK (F := F) m c (rK o') r o = recvPay m c o' := by
  unfold payK; rw [if_neg (by revert o'; decide), if_neg (by revert o'; decide), if_pos (by revert o'; decide)]
  congr 1; revert o'; decide
theorem pay_w (c : Dev nD) (s : Fin 2) (r : ℕ) (o : Dev nD) : payK (F := F) m c (wK s) r o = wPay m c s r := by
  unfold payK; rw [if_neg (by revert s; decide), if_neg (by revert s; decide), if_neg (by revert s; decide)]
  congr 1; revert s; decide

theorem expect_bar (c : Dev nD) : (Xs (F := F) m).expect (kcell (c, 0)) 0 = 3 := by
  unfold Schedule.expect Schedule.amountOf
  rw [duties_k, Finset.sum_congr rfl fun o _ => amount_k m c 0 0 o, Finset.sum_const, dut_bar, amt_bar]
  revert c; decide
theorem expect_one (c : Dev nD) (k : Fin 10) (r : ℕ) (o : Dev nD) (h : dutK c k r = {o}) : (Xs (F := F) m).expect (kcell (c, k)) r = amtK k := by
  unfold Schedule.expect Schedule.amountOf
  rw [duties_k, Finset.sum_congr rfl fun o _ => amount_k m c k r o, h, Finset.sum_singleton]

/-- What the rest of a round with one duty hands over. -/
theorem rest_one (c : Dev nD) (k : Fin 10) (r : ℕ) (o : Dev nD) (h : dutK c k r = {o}) :
    bigSep ((Xs (F := F) m).duties (kcell (c, k)) r \ ∅) (fun d => (Xs (F := F) m).payload (kcell (c, k)) r d) = payK m c k r o := by
  rw [Finset.sdiff_empty, duties_k, h, bigSep_singleton, payload_k]

theorem peers_eq (c : Dev nD) : (Finset.univ.erase c : Finset (Dev nD)) = {rot 1 c, rot 2 c, rot 3 c} := by revert c; decide
/-- What a device's barrier hands over: the three peers' slots for it. -/
theorem rest_bar (c : Dev nD) :
    bigSep ((Xs (F := F) m).duties (kcell (c, 0)) 0 \ ∅) (fun d => (Xs (F := F) m).payload (kcell (c, 0)) 0 d)
      = iprop(barPay c (rot 1 c) ∗ barPay c (rot 2 c) ∗ barPay c (rot 3 c)) := by
  rw [Finset.sdiff_empty, duties_k, dut_bar, bigSep_congr (fun o _ => (payload_k m c 0 0 o).trans (pay_bar m c o 0)),
    bigSep_eq_bigSepL_of_eq [rot 1 c, rot 2 c, rot 3 c] (by revert c; decide) (by revert c; decide)]
  rfl

/-! ## What each device owes at launch; the levels -/

/-- The credit device `c` owes the receive cell `c` of device `t`. -/
abbrev owR (c t : Dev nD) : CellTallies nD τ sig Unit := tallyAt (kcell (t, rK c)) () NB
/-- The unit device `c` owes device `t`'s barrier. -/
abbrev owB (t : Dev nD) : CellTallies nD τ sig Unit := tallyAt (kcell (t, 0)) () 1

/-- In the order it is paid, the last summand first: the barriers 1, 2, 3 places on, then the transfers. -/
def O₁ (c : Dev nD) : CellTallies nD τ sig Unit := (owR c (rot 2 c) + owR c (rot 3 c)) + owR c (rot 1 c)
def O₀ (c : Dev nD) : CellTallies nD τ sig Unit := ((O₁ c + owB (rot 3 c)) + owB (rot 2 c)) + owB (rot 1 c)

def L (g : GSem nD τ sig) : Finset Unit := if g.1.2 = .tc then {()} else ∅
/-- The level of cell number `k`: barrier 1, receives 2, sends and weights 0. -/
def lvK (k : Fin 10) : ℕ := if k = 0 then 1 else if 4 ≤ k.val ∧ k.val < 8 then 2 else 0
def lv (g : GSem nD τ sig) (_ : Unit) : ℕ := match kindOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Fin 10) (u : Unit) : lv (kcell (c, k)) u = lvK k := by
  show (match kindOf (csem k) with | some k => lvK k | none => 0) = _
  rw [kindOf_csem]

/-- A debt that lies on cells of the exchange above level `n` only. -/
def Above (n : ℕ) (O : CellTallies nD τ sig Unit) : Prop := ∀ g u, 0 < O g u → ∃ ck, g = kcell ck ∧ n < lvK ck.2

theorem above_zero (n : ℕ) : Above n 0 := fun g u h => absurd h (Nat.lt_irrefl 0)
theorem above_tally (n : ℕ) (ck : Dev nD × Fin 10) (h : n < lvK ck.2) (a : ℕ) : Above n (tallyAt (kcell ck) () a) := fun g u hg => by
  rw [tallyAt_apply] at hg
  by_cases h' : g = kcell ck ∧ u = ()
  · exact ⟨ck, h'.1, h⟩
  · rw [if_neg h'] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

theorem lv_r (o : Dev nD) : lvK (rK o) = 2 := by revert o; decide
theorem above_R (n : ℕ) (h : n < 2) (c t : Dev nD) : Above n (owR c t) := above_tally n (t, rK c) (by rw [lv_r]; exact h) _
theorem above_O₁ (n : ℕ) (h : n < 2) (c : Dev nD) : Above n (O₁ c) := above_add (above_add (above_R n h _ _) (above_R n h _ _)) (above_R n h _ _)
theorem lv_b : 0 < lvK 0 := by decide
theorem above_O₀ (c : Dev nD) : Above 0 (O₀ c) :=
  above_add (above_add (above_add (above_O₁ 0 (by decide) c) (above_tally 0 (rot 3 c, 0) lv_b _)) (above_tally 0 (rot 2 c, 0) lv_b _))
    (above_tally 0 (rot 1 c, 0) lv_b _)

/-- A device may wait on a semaphore of level `n` while everything it owes lies above `n`. -/
theorem mayWait_of (c : Dev nD) (sm : SemLoc sig) (n : ℕ) (hn : lv ((c : Thread nD τ), sm) () = n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨ck, rfl, -⟩ := hO g u hg; rw [L_tc]; exact Finset.mem_singleton_self _)
    (fun p hp => by rw [Finset.mem_singleton.mp hp]; exact le_of_eq hn)
    (fun g u hg => by obtain ⟨ck, rfl, h⟩ := hO g u hg; rw [lv_k]; exact h)

end Cert.KProof

end
-- ==== Proof.Steps.lean ====
/-
# One rule per kind of step of the kernel

Each rule takes the printed offset vector, peer or semaphore of the step as a variable with an equation for it, so one
statement serves every occurrence of the step in the kernel.
-/
module

public import proofs.«01_k».proof.Proof.Protocol

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The remaining program of device `c` is safe and ends in `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What is known of every cell -/

/-- Every cell's invariant, under the names `K`, and that its round 0 is reached. -/
def recs (K : Dev nD × Fin 10 → ℕ) : sProp 𝕄 :=
  bigSep Finset.univ fun ck : Dev nD × Fin 10 => iprop(cellInv EX (Xs m) (K ck) (kcell ck) ∗ reached EX (kcell ck) 0)

instance recs_persistent (K : Dev nD × Fin 10 → ℕ) : BI.Persistent (recs (F := F) m K) := by unfold recs; infer_instance

theorem recs_at (K : Dev nD × Fin 10 → ℕ) (ck : Dev nD × Fin 10) :
    recs (F := F) m K ⊢ iprop(cellInv EX (Xs m) (K ck) (kcell ck) ∗ reached EX (kcell ck) 0) := bigSep_elim (Finset.mem_univ ck)

/-- What a device owes, at whatever record of its waits. -/
def ow (c : Dev nD) (O : CellTallies nD τ sig Unit) : sProp 𝕄 := iprop(∃ W, owes (c : Thread nD τ) O W)

/-- Slots at some contents. -/
def sAny (c : Dev nD) (d : Fin 3) : sProp 𝕄 := ownsSat (c : Thread nD τ) (sSl d) fullShare (fun _ => True)
def wAny (c : Dev nD) (s : Fin 2) : sProp 𝕄 := ownsSat (c : Thread nD τ) (wSl s) fullShare (fun _ => True)

theorem sem_cell (c : Dev nD) (k : Fin 10) (q : SemLoc sig) (hq : q = csem k) : kcell (c, k) = ((c : Thread nD τ), q) := by rw [hq]

/-! ## A local copy of a column block of `w` -/

/-- Device `c` starts the copy of round `r` into weight slot `s`: the slot and the columns are given up to the copy. -/
theorem st_wcopy (K : Dev nD × Fin 10 → ℕ) (c : Dev nD) (s : Fin 2) (r : ℕ) (hr : r < 2) (t : Fin 4) (ht : wblk c s r = t)
    {oc : Fin 2 → ℕ} {od : Fin 3 → ℕ} {q : DmaSem sig} (hoc : oc = ![0, 512 * t.val]) (hod : od = ![s.val, 0, 0]) (hq : q = qS (wK s))
    {ic : ∀ a, oc a + S4096x512.size a ≤ S4096x2048.size a} {id : ∀ a, od a + S1x4096x512.size a ≤ S2x4096x512.size a}
    {hu : ∀ a, (Rect.unit (s := S4096x2048) oc S4096x512.size ic).stride a = 1} {hv : ∀ a, (Rect.unit (s := S2x4096x512) od S1x4096x512.size id).stride a = 1}
    {hsq : S1x4096x512.Squeezes S4096x512}
    {hsrc : (wM.slice (Rect.unit (s := S4096x2048) oc S4096x512.size ic) hu).view.WordExact}
    {hdst : ((wB.slice (Rect.unit (s := S2x4096x512) od S1x4096x512.size id) hv).squeeze S4096x512 hsq).view.WordExact}
    {hsem : DmaTarget.Typed (nD := nD) (τ := τ) .hbm (.dma q) (DmaTarget.here (p := Proc.tc) ((wB.slice (Rect.unit (s := S2x4096x512) od S1x4096x512.size id) hv).squeeze S4096x512 hsq))}
    {α : Type} {Q : α → sProp 𝕄} {k : PUnit → Prog (TpuEff nD τ sig (Elt F) Λ₀ .tc) α} :
    iprop(recs m K ∗ wHeld m c t ∗ wAny c s ∗ dutyTok EX (kcell (c, wK s)) r c ∗ reached EX (kcell (c, wK s)) r)
      ⊢ iprop((cred (tallyAt (kcell (c, wK s)) () NW) -∗ wpc c (k ⟨⟩) Q)
          -∗ wpc c (.op (.enqueueDma (wM.slice (Rect.unit (s := S4096x2048) oc S4096x512.size ic) hu)
                (.here ((wB.slice (Rect.unit (s := S2x4096x512) od S1x4096x512.size id) hv).squeeze S4096x512 hsq)) (.dma q) hsrc hdst hsem) k) Q) := by
  subst hoc hod hq ht
  have e := sem_cell c (wK s) _ (csem_wK s).symm
  have hd : c ∈ (Xs (F := F) m).duties (kcell (c, wK s)) r := by rw [duties_k, dut_w c s r hr]; exact Finset.mem_singleton_self _
  have ha : (Xs (F := F) m).amount (kcell (c, wK s)) r c = NW := by rw [amount_k, amt_w]
  have hp : (Xs (F := F) m).payload (kcell (c, wK s)) r c = wPay m c s r := by rw [payload_k, pay_w]
  iintro ⟨#Hr, Hw, Hs, Ht, #Hrr⟩ Hk
  ihave #Hi := (recs_at m K (c, wK s)) $$ Hr
  icases Hi with ⟨#Hi, -⟩
  unfold wAny ownsSat wHeld
  icases Hs with ⟨%fd, -, Hs⟩
  rw [e] at *
  iapply (Rounds.wp_copy_pointsTo 𝒱₀ EX (Xs m) (c : Thread nD τ) none (κ := K (c, wK s)) (src := wCl (wblk c s r)) (dst := wSl s) (q := fullShare)
      (fs := m ((c : Thread nD τ).loc main_arg1)) (fd := fd) (r := r) (d := c) hd () NW rfl ha
      (by
        rw [hp]; unfold wPay owns wHeld
        iintro ⟨Hd, Hs⟩
        isplitl [Hd]
        · iexists ((wSl s).view.write (Elt F) fd ((wCl (wblk c s r)).view.read (Elt F) (m ((c : Thread nD τ).loc main_arg1))) Finset.univ)
          isplitr; · ipureintro; exact View.read_write_univ _ _
          iexact Hd
        · iexact Hs)) $$ [Hw Hs Ht]
  · isplitr; · iexact Hi
    isplitl [Hw]; · iexact Hw
    isplitl [Hs]; · iexact Hs
    isplitl [Ht]; · iexact Ht
    iexact Hrr
  iexact Hk

/-! ## Waiting for a round with one duty on a DMA cell -/

/-- Device `c` waits for round `r` of its cell `k`, whose one duty then hands its payload over. -/
theorem st_wait (K : Dev nD × Fin 10 → ℕ) (c : Dev nD) (k : Fin 10) (r : ℕ) (o : Dev nD) (h : dutK c k r = {o}) {q : DmaSem sig} (hq : SemLoc.dma q = csem k)
    {sp sp' : Space} {sh sh' : Shape} {e e' : EltTy} {src : Memref sig .tc sp sh e} {dst : Memref sig .tc sp' sh' e'}
    {h1 : src.view.WordExact} {h2 : dst.view.WordExact} (hN : dst.view.dmaCredit = amtK k)
    (O : CellTallies nD τ sig Unit) (hO : Above (lvK k) O)
    {α : Type} {Q : α → sProp 𝕄} {kk : PUnit → Prog (TpuEff nD τ sig (Elt F) Λ₀ .tc) α} :
    iprop(recs m K ∗ levAts L lv ∗ cred (tallyAt (kcell (c, k)) () (amtK k)) ∗ ow c O ∗ atPos EX (kcell (c, k)) r ∅ 0)
      ⊢ iprop(((ow c O ∗ atPos EX (kcell (c, k)) (r + 1) ∅ 0 ∗ reached EX (kcell (c, k)) (r + 1) ∗ payK m c k r o) -∗ wpc c (kk ⟨⟩) Q)
          -∗ wpc c (.op (.waitDma2 q src dst h1 h2) kk) Q) := by
  have e := sem_cell c k _ hq
  have hx : 0 + dst.view.dmaCredit = (Xs (F := F) m).expect (kcell (c, k)) r := by rw [Nat.zero_add, hN, expect_one m c k r o h]
  have hp := rest_one (F := F) m c k r o h
  have hl : lv (kcell (c, k)) () = lvK k := lv_k c k ()
  iintro ⟨#Hr, #Hlev, Hc, Ho, Ha⟩ Hk
  ihave #Hi := (recs_at m K (c, k)) $$ Hr
  icases Hi with ⟨#Hi, -⟩
  unfold ow
  icases Ho with ⟨%W, Ho⟩
  rw [← hN, e] at *
  iapply (Rounds.wp_wait_rest_token 𝒱₀ EX (Xs m) (c : Thread nD τ) none (κ := K (c, k)) (wpE_waitDma2_eq 𝒱₀ (c : Thread nD τ) none Set.univ)
      (Set.mem_univ _) () (O := O) (W := W) (R := r) (m := 0) (T := ∅) hx) $$ [Hc Ho Ha]
  · isplitr; · iexact Hi
    isplitl [Hc]; · iexact Hc
    isplitl [Ho]; · iexact Ho
    isplitr; · iapply (mayWait_of c (.dma q) (lvK k) hl O hO); iexact Hlev
    iexact Ha
  rw [hp]
  iintro ⟨Ho, Ha, Hr1, Hp⟩
  iapply Hk
  isplitl [Ho]; · iexists _; iexact Ho
  isplitl [Ha]; · iexact Ha
  isplitl [Hr1] <;> iassumption

/-! ## The barrier -/

/-- Device `c` signals its peer `t`'s barrier, handing over slot `t` of its receive buffer. -/
theorem st_signal (K : Dev nD × Fin 10 → ℕ) (c t n : Dev nD) (hn : n = t) (hne : c ≠ t) (O₂ O : CellTallies nD τ sig Unit) (hO : O₂ = O + owB t)
    {α : Type} {Q : α → sProp 𝕄} {k : PUnit → Prog (TpuEff nD τ sig (Elt F) Λ₀ .tc) α} {a : ℕ} (ha : a = 1) :
    iprop(recs m K ∗ ow c O₂ ∗ dutyTok EX (kcell (t, 0)) 0 c ∗ rAny c t)
      ⊢ iprop((ow c O -∗ wpc c (k ⟨⟩) Q) -∗ wpc c (.op (.semSignal (n : Thread nD τ) barS a) k) Q) := by
  subst hn ha
  have e := sem_cell n 0 (.reg barS) rfl
  have hO' : O₂ = O + tallyAt (kcell (n, 0)) () 1 := hO
  have hd : c ∈ (Xs (F := F) m).duties (kcell (n, 0)) 0 := by
    rw [duties_k, dut_bar]; exact Finset.mem_erase.mpr ⟨hne, Finset.mem_univ _⟩
  have hm : (Xs (F := F) m).amount (kcell (n, 0)) 0 c = 1 := by rw [amount_k, amt_bar]
  have hp : (Xs (F := F) m).payload (kcell (n, 0)) 0 c = barPay n c := by rw [payload_k, pay_bar]
  iintro ⟨#Hr, Ho, Ht, Hs⟩ Hk
  ihave #Hi := (recs_at m K (n, 0)) $$ Hr
  icases Hi with ⟨#Hi, #Hr0⟩
  ihave #Hj := (recs_at m K (c, rK n)) $$ Hr
  icases Hj with ⟨-, #Hrr⟩
  unfold ow
  icases Ho with ⟨%W, Ho⟩
  rw [e] at *
  iapply (Rounds.wp_signal 𝒱₀ EX (Xs m) (c : Thread nD τ) none (dst := (n : Thread nD τ)) (κ := K (n, 0)) (d := c) (r := 0) hd hm () O hO' (W := W))
    $$ [Ho Ht Hs]
  · isplitr; · iexact Hi
    isplitl [Ho]; · iexact Ho
    isplitl [Ht]; · iexact Ht
    isplitl [Hs]
    · iapply (Entails.of_eq hp.symm)
      unfold barPay
      isplitl [Hs]; · iexact Hs
      iexact Hrr
    iexact Hr0
  iintro Ho
  iapply Hk
  iexists _; iexact Ho

/-- Device `c` waits for its three peers: their slots `c` come with it. -/
theorem st_barrier (K : Dev nD × Fin 10 → ℕ) (c : Dev nD) (O : CellTallies nD τ sig Unit) (hO : Above 1 O)
    {α : Type} {Q : α → sProp 𝕄} {k : PUnit → Prog (TpuEff nD τ sig (Elt F) Λ₀ .tc) α} {a : ℕ} (ha : a = 3) :
    iprop(recs m K ∗ levAts L lv ∗ cred (tallyAt (kcell (c, 0)) () 3) ∗ ow c O ∗ atPos EX (kcell (c, 0)) 0 ∅ 0)
      ⊢ iprop(((ow c O ∗ atPos EX (kcell (c, 0)) 1 ∅ 0 ∗ rAny (rot 1 c) c ∗ rAny (rot 2 c) c ∗ rAny (rot 3 c) c) -∗ wpc c (k ⟨⟩) Q)
          -∗ wpc c (.op (.semWait barS a) k) Q) := by
  subst ha
  have e := sem_cell c 0 (.reg barS) rfl
  have hx : 0 + 3 = (Xs (F := F) m).expect (kcell (c, 0)) 0 := by rw [expect_bar]
  have hrest := rest_bar (F := F) m c
  have hl : lv (kcell (c, 0)) () = 1 := lv_k c 0 ()
  iintro ⟨#Hr, #Hlev, Hc, Ho, Ha⟩ Hk
  ihave #Hi := (recs_at m K (c, 0)) $$ Hr
  icases Hi with ⟨#Hi, -⟩
  unfold ow
  icases Ho with ⟨%W, Ho⟩
  rw [e] at *
  iapply (Rounds.wp_wait_rest_token 𝒱₀ EX (Xs m) (c : Thread nD τ) none (κ := K (c, 0)) (wpE_semWait_eq 𝒱₀ (c : Thread nD τ) none Set.univ)
      (Set.mem_univ _) () (O := O) (W := W) (R := 0) (m := 0) (T := ∅) hx) $$ [Hc Ho Ha]
  · isplitr; · iexact Hi
    isplitl [Hc]; · iexact Hc
    isplitl [Ho]; · iexact Ho
    isplitr; · iapply (mayWait_of c (.reg barS) 1 hl O hO); iexact Hlev
    iexact Ha
  iintro ⟨Ho, Ha, -, Hp⟩
  ihave Hp := (Entails.of_eq hrest) $$ Hp
  unfold barPay
  icases Hp with ⟨⟨H1, -⟩, ⟨H2, -⟩, ⟨H3, -⟩⟩
  iapply Hk
  isplitl [Ho]; · iexists _; iexact Ho
  isplitl [Ha]; · iexact Ha
  isplitl [H1]; · iexact H1
  isplitl [H2] <;> iassumption

/-! ## The transfer to a peer -/

theorem peer_ne (d : Fin 3) (c : Dev nD) : c ≠ peer d c := by revert d c; decide

/-- Device `c` sends slot `d` of its send buffer into slot `c` of its peer's receive buffer. -/
theorem st_send (K : Dev nD × Fin 10 → ℕ) (c : Dev nD) (d : Fin 3) (n : Dev nD) (hn : n = peer d c)
    (O₂ O : CellTallies nD τ sig Unit) (hO : O₂ = O + owR c (peer d c))
    {os or : Fin 3 → ℕ} {qs qr : DmaSem sig} (hos : os = ![d.val, 0, 0]) (hor : or = ![c.val, 0, 0]) (hqs : qs = qS (sK d)) (hqr : qr = qS (rK c))
    {is : ∀ a, os a + S1x1024x512.size a ≤ S3x1024x512.size a} {ir : ∀ a, or a + S1x1024x512.size a ≤ S4x1024x512.size a}
    {hu : ∀ a, (Rect.unit (s := S3x1024x512) os S1x1024x512.size is).stride a = 1} {hv : ∀ a, (Rect.unit (s := S4x1024x512) or S1x1024x512.size ir).stride a = 1}
    {hq1 hq2 : S1x1024x512.Squeezes S1024x512}
    {hsc : ((rB.slice (Rect.unit (s := S4x1024x512) or S1x1024x512.size ir) hv).squeeze S1024x512 hq2 : Memref sig (Dev.tc n : Thread nD τ).2.kind .vmem S1024x512 .bf16).view.ref.isScScratch = false}
    {hsrc : ((sB.slice (Rect.unit (s := S3x1024x512) os S1x1024x512.size is) hu).squeeze S1024x512 hq1).view.WordExact}
    {hdst : ((rB.slice (Rect.unit (s := S4x1024x512) or S1x1024x512.size ir) hv).squeeze S1024x512 hq2).view.WordExact}
    {hsem : DmaTarget.Typed .vmem (.dma qr) (.remote (Dev.tc n : Thread nD τ) ((rB.slice (Rect.unit (s := S4x1024x512) or S1x1024x512.size ir) hv).squeeze S1024x512 hq2) (.dma qs) hsc)}
    {α : Type} {Q : α → sProp 𝕄} {k : PUnit → Prog (TpuEff nD τ sig (Elt F) Λ₀ .tc) α} :
    iprop(recs m K ∗ owns (c : Thread nD τ) (sSl d) fullShare (sent m c (peer d c)) ∗ rAny (peer d c) c ∗ ow c O₂
        ∗ dutyTok EX (kcell (c, sK d)) 0 c ∗ dutyTok EX (kcell (peer d c, rK c)) 0 c)
      ⊢ iprop(((cred (tallyAt (kcell (c, sK d)) () NB) ∗ ow c O) -∗ wpc c (k ⟨⟩) Q)
          -∗ wpc c (.op (.enqueueDma ((sB.slice (Rect.unit (s := S3x1024x512) os S1x1024x512.size is) hu).squeeze S1024x512 hq1)
                (.remote (Dev.tc n : Thread nD τ) ((rB.slice (Rect.unit (s := S4x1024x512) or S1x1024x512.size ir) hv).squeeze S1024x512 hq2) (.dma qs) hsc) (.dma qr) hsrc hdst hsem) k) Q) := by
  subst hn hos hor hqs hqr
  have e1 := sem_cell c (sK d) _ (csem_sK d).symm
  have e2 := sem_cell (peer d c) (rK c) _ (csem_rK c).symm
  have hO' : O₂ = O + tallyAt (kcell (peer d c, rK c)) () NB := hO
  have hd1 : c ∈ (Xs (F := F) m).duties (kcell (c, sK d)) 0 := by rw [duties_k, dut_s]; exact Finset.mem_singleton_self _
  have hd2 : c ∈ (Xs (F := F) m).duties (kcell (peer d c, rK c)) 0 := by rw [duties_k, dut_r _ _ (peer_ne d c)]; exact Finset.mem_singleton_self _
  have ha1 : (Xs (F := F) m).amount (kcell (c, sK d)) 0 c = NB := by rw [amount_k, amt_s]
  have ha2 : (Xs (F := F) m).amount (kcell (peer d c, rK c)) 0 c = NB := by rw [amount_k, amt_r]
  have hp1 : (Xs (F := F) m).payload (kcell (c, sK d)) 0 c = sendPay m c d := by rw [payload_k, pay_s]
  have hp2 : (Xs (F := F) m).payload (kcell (peer d c, rK c)) 0 c = recvPay m (peer d c) c := by rw [payload_k, pay_r]
  iintro ⟨#Hr, Hs, Hd, Ho, Ht1, Ht2⟩ Hk
  ihave #Hi := (recs_at m K (c, sK d)) $$ Hr
  icases Hi with ⟨#Hi1, #Hr1⟩
  ihave #Hj := (recs_at m K (peer d c, rK c)) $$ Hr
  icases Hj with ⟨#Hi2, #Hr2⟩
  unfold ow
  icases Ho with ⟨%W, Ho⟩
  unfold owns rAny ownsSat
  icases Hs with ⟨%fs, %hfs, Hs⟩
  icases Hd with ⟨%fd, -, Hd⟩
  rw [e1, e2] at *
  iapply (Rounds.wp_send_pointsTo 𝒱₀ EX (Xs m) (c : Thread nD τ) none (c' := (peer d c : Thread nD τ)) (κ₁ := K (c, sK d)) (κ₂ := K (peer d c, rK c))
      (src := sSl d) (dst := rSl c) (q := fullShare) (fs := fs) (fd := fd) (r₁ := 0) (r₂ := 0) (d₁ := c) (d₂ := c) hd1 hd2 () () NB rfl ha1 ha2 O hO' (W := W)
      (by
        rw [hp1]; unfold sendPay owns
        iintro H; iexists fs; isplitr; · ipureintro; exact hfs
        iexact H)
      (by
        rw [hp2]; unfold recvPay owns
        iintro H; iexists ((rSl c).view.write (Elt F) fd ((sSl d).view.read (Elt F) fs) Finset.univ)
        isplitr; · ipureintro; rw [View.read_write_univ]; exact hfs
        iexact H)) $$ [Hs Hd Ho Ht1 Ht2]
  · isplitr; · iexact Hi1
    isplitr; · iexact Hi2
    isplitl [Hs]; · iexact Hs
    isplitl [Hd]; · iexact Hd
    isplitl [Ho]; · iexact Ho
    isplitl [Ht1]; · iexact Ht1
    isplitr; · iexact Hr1
    isplitl [Ht2]; · iexact Ht2
    iexact Hr2
  iintro ⟨Hc, Ho⟩
  iapply Hk
  isplitl [Hc]; · iexact Hc
  iexists W; iexact Ho

/-! ## Loads and stores of slots -/

theorem wSl_set (s : Fin 2) : wB.view.setOn (wR s).toLoadRect.set ⊆ (wSl s).view.set := by
  unfold wSl; rw [Memref.set_view_squeeze]; exact subset_of_eq (View.set_slice wB.view (wR s)).symm
theorem sSl_set (d : Fin 3) : sB.view.setOn (sR d).toLoadRect.set ⊆ (sSl d).view.set := by
  unfold sSl; rw [Memref.set_view_squeeze]; exact subset_of_eq (View.set_slice sB.view (sR d)).symm
theorem rSl_set (o : Fin 4) : rB.view.setOn (rR o).toLoadRect.set ⊆ (rSl o).view.set := by
  unfold rSl; rw [Memref.set_view_squeeze]; exact subset_of_eq (View.set_slice rB.view (rR o)).symm

/-- Loading weight slot `s` yields its contents, up to the leading unit axis. -/
theorem st_wload (c : Dev nD) (s : Fin 2) (X : Vec F S4096x512 .f32) {od : Fin 3 → ℕ} (hod : od = ![s.val, 0, 0])
    {id : ∀ a, od a + S1x4096x512.size a ≤ S2x4096x512.size a} {hl : wB.view.LoadsAt (Rect.unit (s := S2x4096x512) od S1x4096x512.size id).toLoadRect}
    {α : Type} {Q : α → sProp 𝕄} {k : Vec F S1x4096x512 .f32 → Prog (TpuEff nD τ sig (Elt F) Λ₀ .tc) α} :
    (owns (c : Thread nD τ) (wSl s) fullShare X : sProp 𝕄)
      ⊢ iprop((owns (c : Thread nD τ) (wSl s) fullShare X -∗ ∀ v, ⌜shapeCast S4096x512 v shapeCasts_S1x4096x512_S4096x512 = X⌝ -∗ wpc c (k v) Q)
          -∗ wpc c (.op (.load wB (Rect.unit (s := S2x4096x512) od S1x4096x512.size id).toLoadRect hl) k) Q) := by
  subst hod
  unfold owns
  iintro ⟨%f, %hf, H⟩ Hk
  iapply (wp_load 𝒱₀ (c : Thread nD τ) none Set.univ (m := wB) (S := (wSl s).view.set) (wSl_set s)) $$ H
  iintro H
  iapply Hk $$ [H]
  · iexists f; isplitr; · ipureintro; exact hf
    iexact H
  ipureintro
  exact (Memref.read_squeeze_slice _ _ _ _ _ _).symm.trans hf

/-- Loading receive slot `o` yields its contents, up to the leading unit axis. -/
theorem st_rload (c : Dev nD) (o : Fin 4) (X : FVec F S1024x512 .bf16) {od : Fin 3 → ℕ} (hod : od = ![o.val, 0, 0])
    {id : ∀ a, od a + S1x1024x512.size a ≤ S4x1024x512.size a} {hl : rB.view.LoadsAt (Rect.unit (s := S4x1024x512) od S1x1024x512.size id).toLoadRect}
    {α : Type} {Q : α → sProp 𝕄} {k : Vec F S1x1024x512 .bf16 → Prog (TpuEff nD τ sig (Elt F) Λ₀ .tc) α} :
    (owns (c : Thread nD τ) (rSl o) fullShare X : sProp 𝕄)
      ⊢ iprop((owns (c : Thread nD τ) (rSl o) fullShare X -∗ ∀ v, ⌜shapeCast S1024x512 v shapeCasts_S1x1024x512_S1024x512 = X⌝ -∗ wpc c (k v) Q)
          -∗ wpc c (.op (.load rB (Rect.unit (s := S4x1024x512) od S1x1024x512.size id).toLoadRect hl) k) Q) := by
  subst hod
  unfold owns
  iintro ⟨%f, %hf, H⟩ Hk
  iapply (wp_load 𝒱₀ (c : Thread nD τ) none Set.univ (m := rB) (S := (rSl o).view.set) (rSl_set o)) $$ H
  iintro H
  iapply Hk $$ [H]
  · iexists f; isplitr; · ipureintro; exact hf
    iexact H
  ipureintro
  exact (Memref.read_squeeze_slice _ _ _ _ _ _).symm.trans hf

/-- A load of send slot `d` whose value is not used. -/
theorem st_sload (c : Dev nD) (d : Fin 3) {od : Fin 3 → ℕ} (hod : od = ![d.val, 0, 0])
    {id : ∀ a, od a + S1x1024x512.size a ≤ S3x1024x512.size a} {hl : sB.view.LoadsAt (Rect.unit (s := S3x1024x512) od S1x1024x512.size id).toLoadRect}
    {α : Type} {Q : α → sProp 𝕄} {p : Prog (TpuEff nD τ sig (Elt F) Λ₀ .tc) α} :
    (sAny c d : sProp 𝕄)
      ⊢ iprop((sAny c d -∗ wpc c p Q)
          -∗ wpc c (.op (.load sB (Rect.unit (s := S3x1024x512) od S1x1024x512.size id).toLoadRect hl) fun _ => p) Q) := by
  subst hod
  unfold sAny ownsSat
  iintro ⟨%f, -, H⟩ Hk
  iapply (wp_load 𝒱₀ (c : Thread nD τ) none Set.univ (m := sB) (S := (sSl d).view.set) (sSl_set d)) $$ H
  iintro H
  iapply Hk
  iexists f; isplitr; · ipureintro; trivial
  iexact H

/-- Storing into send slot `d`. -/
theorem st_sstore (c : Dev nD) (d : Fin 3) (X : FVec F S1024x512 .bf16) {od : Fin 3 → ℕ} (hod : od = ![d.val, 0, 0])
    {id : ∀ a, od a + S1x1024x512.size a ≤ S3x1024x512.size a} {w : Vec F S1x1024x512 .bf16} (hw : shapeCast S1024x512 w shapeCasts_S1x1024x512_S1024x512 = X)
    {hx : (sB.access (Rect.unit (s := S3x1024x512) od S1x1024x512.size id)).Stores Finset.univ} {hm}
    {α : Type} {Q : α → sProp 𝕄} {k : PUnit → Prog (TpuEff nD τ sig (Elt F) Λ₀ .tc) α} :
    (sAny c d : sProp 𝕄)
      ⊢ iprop((owns (c : Thread nD τ) (sSl d) fullShare X -∗ wpc c (k ⟨⟩) Q)
          -∗ wpc c (.op (.store sB (Rect.unit (s := S3x1024x512) od S1x1024x512.size id) w Finset.univ hx hm) k) Q) := by
  subst hod hw
  unfold sAny ownsSat owns
  iintro ⟨%f, -, H⟩ Hk
  iapply (wp_store 𝒱₀ (c : Thread nD τ) none Set.univ (m := sB) (r := sR d) (S := (sSl d).view.set) (by
    unfold sSl; rw [Memref.set_view_squeeze]; exact subset_of_eq rfl)) $$ H
  iintro H
  iapply Hk
  iexists ((sB.access (sR d)).write (Elt F) f w Finset.univ); isplitr
  · ipureintro
    refine (Memref.read_squeeze_slice _ _ _ _ shapeCasts_S1x1024x512_S1024x512 _).trans ?_
    exact congrArg (fun u => shapeCast S1024x512 u shapeCasts_S1x1024x512_S1024x512) (View.read_write_univ (v := sB.access (sR d)) f w)
  iexact H

/-! ## The output staging buffer -/

/-- The output buffer of device `c` at contents `f`. -/
def oPts (c : Dev nD) (f : Vec F S4096x512 .f32) : sProp 𝕄 := oM.view.loc (c : Thread nD τ) ↦{fullShare} (f : Buf (Elt F) (oM.view.loc (c : Thread nD τ)))

/-- Rows `1024 t …` of `f` replaced by `w`. -/
def putRows (t : Fin 4) (f : Vec F S4096x512 .f32) (w : FVec F S1024x512 .f32) : Vec F S4096x512 .f32 :=
  (oM.access (oR t)).write (Elt F) f w Finset.univ

/-- A load of the output whose value is not used. -/
theorem st_oload (c : Dev nD) (f : Vec F S4096x512 .f32) {r : LoadRect S4096x512} {hl : oM.view.LoadsAt r}
    {α : Type} {Q : α → sProp 𝕄} {p : Prog (TpuEff nD τ sig (Elt F) Λ₀ .tc) α} :
    (oPts c f : sProp 𝕄) ⊢ iprop((oPts c f -∗ wpc c p Q) -∗ wpc c (.op (.load oM r hl) fun _ => p) Q) := by
  unfold oPts
  iintro H Hk
  iapply (wp_load 𝒱₀ (c : Thread nD τ) none Set.univ (m := oM) (Finset.subset_univ _)) $$ H
  iintro H
  iapply Hk; iexact H

/-- Storing row block `t` of the output. -/
theorem st_ostore (c : Dev nD) (t : Fin 4) (f : Vec F S4096x512 .f32) {od : Fin 2 → ℕ} (hod : od = ![1024 * t.val, 0])
    {id : ∀ a, od a + S1024x512.size a ≤ S4096x512.size a} {w : FVec F S1024x512 .f32}
    {hx : (oM.access (Rect.unit (s := S4096x512) od S1024x512.size id)).Stores Finset.univ} {hm}
    {α : Type} {Q : α → sProp 𝕄} {k : PUnit → Prog (TpuEff nD τ sig (Elt F) Λ₀ .tc) α} :
    (oPts c f : sProp 𝕄)
      ⊢ iprop((oPts c (putRows t f w) -∗ wpc c (k ⟨⟩) Q)
          -∗ wpc c (.op (.store oM (Rect.unit (s := S4096x512) od S1024x512.size id) w Finset.univ hx hm) k) Q) := by
  subst hod
  unfold oPts
  iintro H Hk
  iapply (wp_store 𝒱₀ (c : Thread nD τ) none Set.univ (m := oM) (r := oR t) (Finset.subset_univ _)) $$ H
  iintro H
  iapply Hk; iexact H

end Cert.KProof

end
-- ==== Proof.Parts.lean ====
/-
# The printed parts of the kernel, run in order
-/
module

public import proofs.«01_k».proof.Proof.Steps

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The printed offsets and semaphores -/

theorem off1_1 (c : Dev nD) : k0_off1 c 1#32 = ![0, 512 * (rot 1 c).val] := by revert c; decide
theorem off1_2 (c : Dev nD) : k0_off1 c 2#32 = ![0, 512 * (rot 2 c).val] := by revert c; decide
theorem off1_3 (c : Dev nD) : k0_off1 c 3#32 = ![0, 512 * (rot 3 c).val] := by revert c; decide
theorem off1_0 (c : Dev nD) : k0_off1 c 0#32 = ![0, 512 * (rot 0 c).val] := by revert c; decide
theorem off3_c (c : Dev nD) : k0_off3 c = ![c.val, 0, 0] := by revert c; decide
theorem off4_c (c : Dev nD) : k0_off4 c = ![1024 * c.val, 0] := by revert c; decide
theorem off7_1 (c : Dev nD) : k0_off7 c 1#32 = ![(rot 1 c).val, 0, 0] := by revert c; decide
theorem off7_2 (c : Dev nD) : k0_off7 c 2#32 = ![(rot 2 c).val, 0, 0] := by revert c; decide
theorem off7_3 (c : Dev nD) : k0_off7 c 3#32 = ![(rot 3 c).val, 0, 0] := by revert c; decide
theorem off8_1 (c : Dev nD) : k0_off8 c 1#32 = ![1024 * (rot 1 c).val, 0] := by revert c; decide
theorem off8_2 (c : Dev nD) : k0_off8 c 2#32 = ![1024 * (rot 2 c).val, 0] := by revert c; decide
theorem off8_3 (c : Dev nD) : k0_off8 c 3#32 = ![1024 * (rot 3 c).val, 0] := by revert c; decide

theorem sem_r (c : Dev nD) : ((cc0_scratch4.slice (Rect.unit (s := S4) (k0_off2 c) S1.size (k0_off2_inb c))).squeeze S_ squeezes_S1_S_).sem = qS (rK c) := by revert c; decide
theorem sem_w1 (c : Dev nD) : SemLoc.dma ((cc0_scratch4.slice (Rect.unit (s := S4) (k0_off5 c 1#32) S1.size (k0_off5_inb c 0))).squeeze S_ squeezes_S1_S_).sem = csem (rK (rot 1 c)) := by revert c; decide
theorem sem_w2 (c : Dev nD) : SemLoc.dma ((cc0_scratch4.slice (Rect.unit (s := S4) (k0_off5 c 2#32) S1.size (k0_off5_inb c 1))).squeeze S_ squeezes_S1_S_).sem = csem (rK (rot 2 c)) := by revert c; decide
theorem sem_w3 (c : Dev nD) : SemLoc.dma ((cc0_scratch4.slice (Rect.unit (s := S4) (k0_off5 c 3#32) S1.size (k0_off5_inb c 2))).squeeze S_ squeezes_S1_S_).sem = csem (rK (rot 3 c)) := by revert c; decide

theorem ne_1 (c : Dev nD) : c ≠ rot 1 c := by revert c; decide
theorem ne_2 (c : Dev nD) : c ≠ rot 2 c := by revert c; decide
theorem ne_3 (c : Dev nD) : c ≠ rot 3 c := by revert c; decide

/-! ## Steps at the ends of the parts, and loads of whole buffers -/

theorem st_ret (c : Dev nD) {α : Type} {a : α} {Q : α → sProp 𝕄} : Q a ⊢ wpc c (.ret a) Q := by
  unfold wpc; rw [wp_ret]; exact fupd_intro

/-- The staging buffers of `x` and of the two scales on device `c`. -/
def xPts (c : Dev nD) (f : Vec F S1024x4096 .f32) : sProp 𝕄 := xM.view.loc (c : Thread nD τ) ↦{fullShare} (f : Buf (Elt F) (xM.view.loc (c : Thread nD τ)))
def pPts (c : Dev nD) (f : Vec F S1 .f32) : sProp 𝕄 := pM.view.loc (c : Thread nD τ) ↦{fullShare} (f : Buf (Elt F) (pM.view.loc (c : Thread nD τ)))
def qPts (c : Dev nD) (f : Vec F S1 .f32) : sProp 𝕄 := qM.view.loc (c : Thread nD τ) ↦{fullShare} (f : Buf (Elt F) (qM.view.loc (c : Thread nD τ)))

theorem ix1_eq (x : S1.Idx) : x = ix1 := funext fun a => Fin.ext (by
  have h' : S1.size a = 1 := by revert a; decide
  have h := (x a).isLt
  have h2 := (ix1 a).isLt; omega)
theorem hz1 : (![0] : Fin 1 → Nat) = fun _ => 0 := funext fun a => by fin_cases a; rfl
theorem hz2 : (![0, 0] : Fin 2 → Nat) = fun _ => 0 := funext fun a => by fin_cases a <;> rfl

theorem credit_w (d : Memref sig .tc .vmem S4096x512 .f32) : d.view.dmaCredit = NW := rfl
theorem credit_b (d : Memref sig .tc .vmem S1024x512 .bf16) : d.view.dmaCredit = NB := rfl

theorem wAny_intro (c : Dev nD) (s : Fin 2) (X : Vec F S4096x512 .f32) : (owns (c : Thread nD τ) (wSl s) fullShare X : sProp 𝕄) ⊢ wAny c s :=
  ownsSat_intro (Φ := fun _ => True) (c : Thread nD τ) (wSl s) fullShare trivial
theorem rAny_intro (c : Dev nD) (o : Fin 4) (X : FVec F S1024x512 .bf16) : (owns (c : Thread nD τ) (rSl o) fullShare X : sProp 𝕄) ⊢ rAny c o :=
  ownsSat_intro (Φ := fun _ => True) (c : Thread nD τ) (rSl o) fullShare trivial
theorem pay_w_open (c : Dev nD) (s : Fin 2) (r : ℕ) (o : Dev nD) (t : Fin 4) (ht : wblk c s r = t) :
    (payK m c (wK s) r o : sProp 𝕄) ⊢ iprop(owns (c : Thread nD τ) (wSl s) fullShare (wcols m c t) ∗ wHeld m c t) := by
  subst ht; rw [pay_w]; exact .rfl
theorem pay_r_open (c o : Dev nD) : (payK m c (rK o) 0 o : sProp 𝕄) ⊢ owns (c : Thread nD τ) (rSl o) fullShare (sent m o c) := by
  rw [pay_r]; exact .rfl

theorem st_pload (c : Dev nD) (f : Vec F S1 .f32) {id : ∀ a, ![0] a + S1.size a ≤ S1.size a} {hl : pM.view.LoadsAt (Rect.unit (s := S1) ![0] S1.size id).toLoadRect}
    {α : Type} {Q : α → sProp 𝕄} {k : Vec F S1 .f32 → Prog (TpuEff nD τ sig (Elt F) Λ₀ .tc) α} :
    (pPts c f : sProp 𝕄) ⊢ iprop((pPts c f -∗ wpc c (k f) Q) -∗ wpc c (.op (.load pM (Rect.unit (s := S1) ![0] S1.size id).toLoadRect hl) k) Q) := by
  unfold pPts
  iintro H Hk
  iapply (wp_load 𝒱₀ (c : Thread nD τ) none Set.univ (m := pM) (Finset.subset_univ _)) $$ H
  iintro H
  have hr : View.readAt (Elt F) pM.view (Rect.unit (s := S1) ![0] S1.size id).toLoadRect f = f := Memref.readAt_unit_zero (Elt F) cc0_stg1_0 hz1 _ f
  rw [hr]
  iapply Hk; iexact H

theorem st_qload (c : Dev nD) (f : Vec F S1 .f32) {id : ∀ a, ![0] a + S1.size a ≤ S1.size a} {hl : qM.view.LoadsAt (Rect.unit (s := S1) ![0] S1.size id).toLoadRect}
    {α : Type} {Q : α → sProp 𝕄} {k : Vec F S1 .f32 → Prog (TpuEff nD τ sig (Elt F) Λ₀ .tc) α} :
    (qPts c f : sProp 𝕄) ⊢ iprop((qPts c f -∗ wpc c (k f) Q) -∗ wpc c (.op (.load qM (Rect.unit (s := S1) ![0] S1.size id).toLoadRect hl) k) Q) := by
  unfold qPts
  iintro H Hk
  iapply (wp_load 𝒱₀ (c : Thread nD τ) none Set.univ (m := qM) (Finset.subset_univ _)) $$ H
  iintro H
  have hr : View.readAt (Elt F) qM.view (Rect.unit (s := S1) ![0] S1.size id).toLoadRect f = f := Memref.readAt_unit_zero (Elt F) cc0_stg2_0 hz1 _ f
  rw [hr]
  iapply Hk; iexact H

theorem st_xload (c : Dev nD) (f : Vec F S1024x4096 .f32) {id : ∀ a, ![0, 0] a + S1024x4096.size a ≤ S1024x4096.size a} {hl : xM.view.LoadsAt (Rect.unit (s := S1024x4096) ![0, 0] S1024x4096.size id).toLoadRect}
    {α : Type} {Q : α → sProp 𝕄} {k : Vec F S1024x4096 .f32 → Prog (TpuEff nD τ sig (Elt F) Λ₀ .tc) α} :
    (xPts c f : sProp 𝕄) ⊢ iprop((xPts c f -∗ wpc c (k f) Q) -∗ wpc c (.op (.load xM (Rect.unit (s := S1024x4096) ![0, 0] S1024x4096.size id).toLoadRect hl) k) Q) := by
  unfold xPts
  iintro H Hk
  iapply (wp_load 𝒱₀ (c : Thread nD τ) none Set.univ (m := xM) (Finset.subset_univ _)) $$ H
  iintro H
  have hr : View.readAt (Elt F) xM.view (Rect.unit (s := S1024x4096) ![0, 0] S1024x4096.size id).toLoadRect f = f := Memref.readAt_unit_zero (Elt F) cc0_stg0_0 hz2 _ f
  rw [hr]
  iapply Hk; iexact H

/-! ## The stored values -/

theorem pay3_val (s : F .f32) (x : FVec F S1024x4096 .fp8e5m2) (X : Vec F S4096x512 .f32) (v : Vec F S1x4096x512 .f32)
    (h : shapeCast S4096x512 v shapeCasts_S1x4096x512_S4096x512 = X) :
    shapeCast S1024x512 (k0_pay3 s x v) shapeCasts_S1x1024x512_S1024x512 = hblk s x X := by
  subst h; exact shapeCast_shapeCast (hblk s x _) _ _
theorem pay4_val (s : F .f32) (x : FVec F S1024x4096 .fp8e5m2) (X : Vec F S4096x512 .f32) (v : Vec F S1x4096x512 .f32)
    (h : shapeCast S4096x512 v shapeCasts_S1x4096x512_S4096x512 = X) :
    shapeCast S1024x512 (k0_pay4 s x v) shapeCasts_S1x1024x512_S1024x512 = hblk s x X := by
  subst h; exact shapeCast_shapeCast (hblk s x _) _ _
theorem pay5_val (s : F .f32) (x : FVec F S1024x4096 .fp8e5m2) (X : Vec F S4096x512 .f32) (v : Vec F S1x4096x512 .f32)
    (h : shapeCast S4096x512 v shapeCasts_S1x4096x512_S4096x512 = X) :
    shapeCast S1024x512 (k0_pay5 s x v) shapeCasts_S1x1024x512_S1024x512 = hblk s x X := by
  subst h; exact shapeCast_shapeCast (hblk s x _) _ _
theorem pay6_val (s : F .f32) (x : FVec F S1024x4096 .fp8e5m2) (X : Vec F S4096x512 .f32) (v : Vec F S1x4096x512 .f32)
    (h : shapeCast S4096x512 v shapeCasts_S1x4096x512_S4096x512 = X) : k0_pay6 s x v = fblk s x X := by
  subst h; rfl
theorem pay7_val (X : FVec F S1024x512 .bf16) (v : Vec F S1x1024x512 .bf16) (h : shapeCast S1024x512 v shapeCasts_S1x1024x512_S1024x512 = X) :
    k0_pay7 v = extf .f32 X bitsLt_bf16_f32 := by subst h; rfl
theorem pay8_val (X : FVec F S1024x512 .bf16) (v : Vec F S1x1024x512 .bf16) (h : shapeCast S1024x512 v shapeCasts_S1x1024x512_S1024x512 = X) :
    k0_pay8 v = extf .f32 X bitsLt_bf16_f32 := by subst h; rfl
theorem pay9_val (X : FVec F S1024x512 .bf16) (v : Vec F S1x1024x512 .bf16) (h : shapeCast S1024x512 v shapeCasts_S1x1024x512_S1024x512 = X) :
    k0_pay9 v = extf .f32 X bitsLt_bf16_f32 := by subst h; rfl

/-! ## The parts -/

/-- The copy of the first column block starts; the first peer is signalled. -/
theorem part1_run (K : Dev nD × Fin 10 → ℕ) (c : Dev nD) {Q : (Σ' (d0 : Dev nD) (v2 : BitVec 32) (v11 : Sems sig S_) (v27 : BitVec 32) (v28 : BitVec 32) (v29 : BitVec 1), BitVec 1) → sProp 𝕄} :
    iprop(recs m K ∗ wHeld m c (rot 1 c) ∗ wAny c 0 ∗ dutyTok EX (kcell (c, wK 0)) 0 c
        ∗ ow c (O₀ c) ∗ dutyTok EX (kcell (rot 1 c, 0)) 0 c ∗ rAny c (rot 1 c)
        ∗ (∀ v2 v27 v28 v29 v30, (cred (tallyAt (kcell (c, wK 0)) () NW) ∗ ow c ((O₁ c + owB (rot 3 c)) + owB (rot 2 c)))
              -∗ Q ⟨c, v2, SemArray.scalar (sig.barrier 0 rfl), v27, v28, v29, v30⟩))
      ⊢ wpc c (k0_part1 (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5) Q := by
  rw [k0_part1_eq_skeleton]; unfold k0_part1_skel wpc
  simp only [semSignalWord, semWaitWord, Prog.lift, Prog.bind_op, Prog.bind_ret, Prog.pure_eq_ret, wp_deviceId]
  iintro ⟨#Hr, Hw, Hs, Ht, Ho, Hb, Hv, Hk⟩
  ihave #Hj := (recs_at m K (c, wK 0)) $$ Hr
  icases Hj with ⟨-, #Hrr⟩
  iapply (st_wcopy m K c 0 0 (by decide) (rot 1 c) rfl (off1_1 c) rfl rfl) $$ [Hw Hs Ht]
  · isplitr; · iexact Hr
    isplitl [Hw]; · iexact Hw
    isplitl [Hs]; · iexact Hs
    isplitl [Ht]; · iexact Ht
    iexact Hrr
  iintro Hc
  iapply (st_signal m K c (rot 1 c) _ (dev1_eq c) (ne_1 c) (O₀ c) ((O₁ c + owB (rot 3 c)) + owB (rot 2 c)) rfl (by decide)) $$ [Ho Hb Hv]
  · isplitr; · iexact Hr
    isplitl [Ho]; · iexact Ho
    isplitl [Hb]; · iexact Hb
    iexact Hv
  iintro Ho
  iapply (st_ret c)
  iapply Hk
  isplitl [Hc] <;> iassumption

/-- The two other peers are signalled and all three waited for; the scales and the rows of `x` are loaded. -/
theorem part2_run (K : Dev nD × Fin 10 → ℕ) (c : Dev nD) (v2 v27 v28 : BitVec 32) (v29 v30 : BitVec 1) {Q : (Σ' (v53 : F .f32), FVec F S1024x4096 .fp8e5m2) → sProp 𝕄} :
    iprop(recs m K ∗ levAts L lv ∗ ow c ((O₁ c + owB (rot 3 c)) + owB (rot 2 c)) ∗ dutyTok EX (kcell (rot 2 c, 0)) 0 c ∗ rAny c (rot 2 c)
        ∗ dutyTok EX (kcell (rot 3 c, 0)) 0 c ∗ rAny c (rot 3 c)
        ∗ cred (tallyAt (kcell (c, 0)) () 3) ∗ atPos EX (kcell (c, 0)) 0 ∅ 0
        ∗ pPts c (m ((c : Thread nD τ).loc main_arg2)) ∗ qPts c (m ((c : Thread nD τ).loc main_arg3)) ∗ xPts c (xrows m c)
        ∗ ((ow c (O₁ c) ∗ atPos EX (kcell (c, 0)) 1 ∅ 0 ∗ (rAny (rot 1 c) c ∗ rAny (rot 2 c) c ∗ rAny (rot 3 c) c)
              ∗ pPts c (m ((c : Thread nD τ).loc main_arg2)) ∗ qPts c (m ((c : Thread nD τ).loc main_arg3)) ∗ xPts c (xrows m c))
              -∗ Q ⟨scl m c, k0_pay2 (xrows m c)⟩))
      ⊢ wpc c (k0_part2 (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5 c v2 (SemArray.scalar (sig.barrier 0 rfl)) v27 v28 v29 v30) Q := by
  rw [k0_part2_eq_skeleton]; unfold k0_part2_skel wpc
  simp only [semSignalWord, semWaitWord, smemLoad, smemLoadElt, Prog.lift, Prog.bind_op, Prog.bind_ret, Prog.pure_eq_ret, wp_deviceId]
  iintro ⟨#Hr, #Hlev, Ho, Hb2, Hv2, Hb3, Hv3, Hcb, Hab, Hp, Hq, Hx, Hk⟩
  iapply (st_signal m K c (rot 2 c) _ (dev2_eq c) (ne_2 c) _ (O₁ c + owB (rot 3 c)) rfl (by decide)) $$ [Ho Hb2 Hv2]
  · isplitr; · iexact Hr
    isplitl [Ho]; · iexact Ho
    isplitl [Hb2]; · iexact Hb2
    iexact Hv2
  iintro Ho
  iapply (st_signal m K c (rot 3 c) _ (dev3_eq c) (ne_3 c) _ (O₁ c) rfl (by decide)) $$ [Ho Hb3 Hv3]
  · isplitr; · iexact Hr
    isplitl [Ho]; · iexact Ho
    isplitl [Hb3]; · iexact Hb3
    iexact Hv3
  iintro Ho
  iapply (st_barrier m K c (O₁ c) (above_O₁ 1 (by decide) c) (by decide)) $$ [Hcb Ho Hab]
  · isplitr; · iexact Hr
    isplitr; · iexact Hlev
    isplitl [Hcb]; · iexact Hcb
    isplitl [Ho]; · iexact Ho
    iexact Hab
  iintro ⟨Ho, Hab, Hvs⟩
  iapply (st_pload c _) $$ Hp; iintro Hp
  iapply (st_qload c _) $$ Hq; iintro Hq
  iapply (st_xload c _) $$ Hx; iintro Hx
  iapply (st_ret c)
  rw [ix1_eq (Shape.Idx.first _)]
  have e : k0_pay1 (F := F) (m ((c : Thread nD τ).loc main_arg2) ix1) (m ((c : Thread nD τ).loc main_arg3) ix1) = scl m c := rfl
  rw [e]
  iapply Hk
  isplitl [Ho]; · iexact Ho
  isplitl [Hab]; · iexact Hab
  isplitl [Hvs]; · iexact Hvs
  isplitl [Hp]; · iexact Hp
  isplitl [Hq]; · iexact Hq
  iexact Hx

/-- The second copy starts; the first block is computed into send slot 0. -/
theorem part3_run (K : Dev nD × Fin 10 → ℕ) (c : Dev nD) (v2 : BitVec 32) {Q : PUnit → sProp 𝕄} :
    iprop(recs m K ∗ levAts L lv ∗ wHeld m c (rot 3 c) ∗ wAny c 1 ∗ dutyTok EX (kcell (c, wK 1)) 0 c
        ∗ cred (tallyAt (kcell (c, wK 0)) () NW) ∗ ow c (O₁ c) ∗ atPos EX (kcell (c, wK 0)) 0 ∅ 0 ∗ sAny c 0
        ∗ ((cred (tallyAt (kcell (c, wK 1)) () NW) ∗ ow c (O₁ c) ∗ atPos EX (kcell (c, wK 0)) 1 ∅ 0 ∗ reached EX (kcell (c, wK 0)) 1
              ∗ wAny c 0 ∗ wHeld m c (rot 1 c) ∗ owns (c : Thread nD τ) (sSl 0) fullShare (sent m c (peer 0 c)))
              -∗ Q ⟨⟩))
      ⊢ wpc c (k0_part3 (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5 c v2 (scl m c) (k0_pay2 (xrows m c))) Q := by
  rw [k0_part3_eq_skeleton]; unfold k0_part3_skel wpc
  simp only [semSignalWord, semWaitWord, smemLoad, smemLoadElt, Prog.lift, Prog.bind_op, Prog.bind_ret, Prog.pure_eq_ret, wp_deviceId]
  iintro ⟨#Hr, #Hlev, Hw, Hs, Ht, Hc0, Ho, Ha0, Hsl, Hk⟩
  ihave #Hj := (recs_at m K (c, wK 1)) $$ Hr
  icases Hj with ⟨-, #Hrr⟩
  iapply (st_wcopy m K c 1 0 (by decide) (rot 3 c) rfl (off1_3 c) rfl rfl) $$ [Hw Hs Ht]
  · isplitr; · iexact Hr
    isplitl [Hw]; · iexact Hw
    isplitl [Hs]; · iexact Hs
    isplitl [Ht]; · iexact Ht
    iexact Hrr
  iintro Hc1
  iapply (st_wait m K c (wK 0) 0 c (dut_w c 0 0 (by decide)) rfl (credit_w _) (O₁ c) (above_O₁ _ (by decide) c)) $$ [Hc0 Ho Ha0]
  · isplitr; · iexact Hr
    isplitr; · iexact Hlev
    isplitl [Hc0]; · iexact Hc0
    isplitl [Ho]; · iexact Ho
    iexact Ha0
  iintro ⟨Ho, Ha0, Hr0, Hp⟩
  ihave Hp := (pay_w_open m c 0 0 c (rot 1 c) rfl) $$ Hp
  icases Hp with ⟨Hs0, Hw0⟩
  iapply (st_wload c 0 (wcols m c (rot 1 c)) rfl) $$ Hs0; iintro Hs0; iintro %v; iintro %hv
  iapply (st_sload c 0 rfl) $$ Hsl; iintro Hsl
  iapply (st_sstore c 0 (sent m c (peer 0 c)) rfl (pay3_val _ _ _ _ hv)) $$ Hsl; iintro Hsl
  iapply (st_ret c)
  iapply Hk
  isplitl [Hc1]; · iexact Hc1
  isplitl [Ho]; · iexact Ho
  isplitl [Ha0]; · iexact Ha0
  isplitl [Hr0]; · iexact Hr0
  isplitl [Hs0]; · iapply (wAny_intro c 0 _); iexact Hs0
  isplitl [Hw0]; · iexact Hw0
  iexact Hsl

/-- Block 0 is sent; the third copy starts; the second block is computed into send slot 1. -/
theorem part4_run (K : Dev nD × Fin 10 → ℕ) (c : Dev nD) (v2 : BitVec 32) {Q : PUnit → sProp 𝕄} :
    iprop(recs m K ∗ levAts L lv ∗ owns (c : Thread nD τ) (sSl 0) fullShare (sent m c (peer 0 c)) ∗ rAny (rot 1 c) c ∗ ow c (O₁ c)
        ∗ dutyTok EX (kcell (c, sK 0)) 0 c ∗ dutyTok EX (kcell (rot 1 c, rK c)) 0 c
        ∗ wHeld m c (rot 2 c) ∗ wAny c 0 ∗ dutyTok EX (kcell (c, wK 0)) 1 c ∗ reached EX (kcell (c, wK 0)) 1
        ∗ cred (tallyAt (kcell (c, wK 1)) () NW) ∗ atPos EX (kcell (c, wK 1)) 0 ∅ 0 ∗ sAny c 1
        ∗ ((cred (tallyAt (kcell (c, sK 0)) () NB) ∗ cred (tallyAt (kcell (c, wK 0)) () NW) ∗ ow c (owR c (rot 2 c) + owR c (rot 3 c))
              ∗ atPos EX (kcell (c, wK 1)) 1 ∅ 0 ∗ reached EX (kcell (c, wK 1)) 1
              ∗ wAny c 1 ∗ wHeld m c (rot 3 c) ∗ owns (c : Thread nD τ) (sSl 1) fullShare (sent m c (peer 1 c)))
              -∗ Q ⟨⟩))
      ⊢ wpc c (k0_part4 (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5 c v2 (scl m c) (k0_pay2 (xrows m c))) Q := by
  rw [k0_part4_eq_skeleton]; unfold k0_part4_skel wpc
  simp only [semSignalWord, semWaitWord, smemLoad, smemLoadElt, Prog.lift, Prog.bind_op, Prog.bind_ret, Prog.pure_eq_ret, wp_deviceId]
  iintro ⟨#Hr, #Hlev, Hb, Hd, Ho, Ht1, Ht2, Hw, Hs, Ht, #Hrr, Hc1, Ha1, Hsl, Hk⟩
  iapply (st_send m K c 0 _ (dev4_eq c) (O₁ c) (owR c (rot 2 c) + owR c (rot 3 c)) rfl rfl (off3_c c) rfl (sem_r c)) $$ [Hb Hd Ho Ht1 Ht2]
  · isplitr; · iexact Hr
    isplitl [Hb]; · iexact Hb
    isplitl [Hd]; · iexact Hd
    isplitl [Ho]; · iexact Ho
    isplitl [Ht1]; · iexact Ht1
    iexact Ht2
  iintro ⟨Hcs, Ho⟩
  iapply (st_wcopy m K c 0 1 (by decide) (rot 2 c) rfl (off1_2 c) rfl rfl) $$ [Hw Hs Ht]
  · isplitr; · iexact Hr
    isplitl [Hw]; · iexact Hw
    isplitl [Hs]; · iexact Hs
    isplitl [Ht]; · iexact Ht
    iexact Hrr
  iintro Hc0
  iapply (st_wait m K c (wK 1) 0 c (dut_w c 1 0 (by decide)) rfl (credit_w _) (owR c (rot 2 c) + owR c (rot 3 c)) (above_add (above_R _ (by decide) c _) (above_R _ (by decide) c _))) $$ [Hc1 Ho Ha1]
  · isplitr; · iexact Hr
    isplitr; · iexact Hlev
    isplitl [Hc1]; · iexact Hc1
    isplitl [Ho]; · iexact Ho
    iexact Ha1
  iintro ⟨Ho, Ha1, Hr1, Hp⟩
  ihave Hp := (pay_w_open m c 1 0 c (rot 3 c) rfl) $$ Hp
  icases Hp with ⟨Hs1, Hw1⟩
  iapply (st_wload c 1 (wcols m c (rot 3 c)) rfl) $$ Hs1; iintro Hs1; iintro %v; iintro %hv
  iapply (st_sload c 1 rfl) $$ Hsl; iintro Hsl
  iapply (st_sstore c 1 (sent m c (peer 1 c)) rfl (pay4_val _ _ _ _ hv)) $$ Hsl; iintro Hsl
  iapply (st_ret c)
  iapply Hk
  isplitl [Hcs]; · iexact Hcs
  isplitl [Hc0]; · iexact Hc0
  isplitl [Ho]; · iexact Ho
  isplitl [Ha1]; · iexact Ha1
  isplitl [Hr1]; · iexact Hr1
  isplitl [Hs1]; · iapply (wAny_intro c 1 _); iexact Hs1
  isplitl [Hw1]; · iexact Hw1
  iexact Hsl

/-- Block 1 is sent; the fourth copy starts; the third column block has come. -/
theorem part5_run (K : Dev nD × Fin 10 → ℕ) (c : Dev nD) (v2 : BitVec 32) {Q : PUnit → sProp 𝕄} :
    iprop(recs m K ∗ levAts L lv ∗ owns (c : Thread nD τ) (sSl 1) fullShare (sent m c (peer 1 c)) ∗ rAny (rot 3 c) c ∗ ow c (owR c (rot 2 c) + owR c (rot 3 c))
        ∗ dutyTok EX (kcell (c, sK 1)) 0 c ∗ dutyTok EX (kcell (rot 3 c, rK c)) 0 c
        ∗ wHeld m c (rot 0 c) ∗ wAny c 1 ∗ dutyTok EX (kcell (c, wK 1)) 1 c ∗ reached EX (kcell (c, wK 1)) 1
        ∗ cred (tallyAt (kcell (c, wK 0)) () NW) ∗ atPos EX (kcell (c, wK 0)) 1 ∅ 0
        ∗ ((cred (tallyAt (kcell (c, sK 1)) () NB) ∗ cred (tallyAt (kcell (c, wK 1)) () NW) ∗ ow c (owR c (rot 2 c))
              ∗ atPos EX (kcell (c, wK 0)) 2 ∅ 0 ∗ owns (c : Thread nD τ) (wSl 0) fullShare (wcols m c (rot 2 c)) ∗ wHeld m c (rot 2 c))
              -∗ Q ⟨⟩))
      ⊢ wpc c (k0_part5 (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5 c v2) Q := by
  rw [k0_part5_eq_skeleton]; unfold k0_part5_skel wpc
  simp only [semSignalWord, semWaitWord, smemLoad, smemLoadElt, Prog.lift, Prog.bind_op, Prog.bind_ret, Prog.pure_eq_ret, wp_deviceId]
  iintro ⟨#Hr, #Hlev, Hb, Hd, Ho, Ht1, Ht2, Hw, Hs, Ht, #Hrr, Hc0, Ha0, Hk⟩
  iapply (st_send m K c 1 _ (dev5_eq c) (owR c (rot 2 c) + owR c (rot 3 c)) (owR c (rot 2 c)) rfl rfl (off3_c c) rfl (sem_r c)) $$ [Hb Hd Ho Ht1 Ht2]
  · isplitr; · iexact Hr
    isplitl [Hb]; · iexact Hb
    isplitl [Hd]; · iexact Hd
    isplitl [Ho]; · iexact Ho
    isplitl [Ht1]; · iexact Ht1
    iexact Ht2
  iintro ⟨Hcs, Ho⟩
  iapply (st_wcopy m K c 1 1 (by decide) (rot 0 c) rfl (off1_0 c) rfl rfl) $$ [Hw Hs Ht]
  · isplitr; · iexact Hr
    isplitl [Hw]; · iexact Hw
    isplitl [Hs]; · iexact Hs
    isplitl [Ht]; · iexact Ht
    iexact Hrr
  iintro Hc1
  iapply (st_wait m K c (wK 0) 1 c (dut_w c 0 1 (by decide)) rfl (credit_w _) (owR c (rot 2 c)) (above_R _ (by decide) c _)) $$ [Hc0 Ho Ha0]
  · isplitr; · iexact Hr
    isplitr; · iexact Hlev
    isplitl [Hc0]; · iexact Hc0
    isplitl [Ho]; · iexact Ho
    iexact Ha0
  iintro ⟨Ho, Ha0, -, Hp⟩
  ihave Hp := (pay_w_open m c 0 1 c (rot 2 c) rfl) $$ Hp
  icases Hp with ⟨Hs0, Hw0⟩
  iapply (st_ret c)
  iapply Hk
  isplitl [Hcs]; · iexact Hcs
  isplitl [Hc1]; · iexact Hc1
  isplitl [Ho]; · iexact Ho
  isplitl [Ha0]; · iexact Ha0
  isplitl [Hs0]; · iexact Hs0
  iexact Hw0

/-- The third block is computed into send slot 2 and sent; the fourth column block has come. -/
theorem part6_run (K : Dev nD × Fin 10 → ℕ) (c : Dev nD) (v2 : BitVec 32) {Q : PUnit → sProp 𝕄} :
    iprop(recs m K ∗ levAts L lv ∗ owns (c : Thread nD τ) (wSl 0) fullShare (wcols m c (rot 2 c)) ∗ sAny c 2 ∗ rAny (rot 2 c) c ∗ ow c (owR c (rot 2 c))
        ∗ dutyTok EX (kcell (c, sK 2)) 0 c ∗ dutyTok EX (kcell (rot 2 c, rK c)) 0 c
        ∗ cred (tallyAt (kcell (c, wK 1)) () NW) ∗ atPos EX (kcell (c, wK 1)) 1 ∅ 0
        ∗ ((cred (tallyAt (kcell (c, sK 2)) () NB) ∗ ow c 0 ∗ wAny c 0
              ∗ atPos EX (kcell (c, wK 1)) 2 ∅ 0 ∗ owns (c : Thread nD τ) (wSl 1) fullShare (wcols m c (rot 0 c)) ∗ wHeld m c (rot 0 c))
              -∗ Q ⟨⟩))
      ⊢ wpc c (k0_part6 (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5 c v2 (scl m c) (k0_pay2 (xrows m c))) Q := by
  rw [k0_part6_eq_skeleton]; unfold k0_part6_skel wpc
  simp only [semSignalWord, semWaitWord, smemLoad, smemLoadElt, Prog.lift, Prog.bind_op, Prog.bind_ret, Prog.pure_eq_ret, wp_deviceId]
  iintro ⟨#Hr, #Hlev, Hs0, Hsl, Hd, Ho, Ht1, Ht2, Hc1, Ha1, Hk⟩
  iapply (st_wload c 0 (wcols m c (rot 2 c)) rfl) $$ Hs0; iintro Hs0; iintro %v; iintro %hv
  iapply (st_sload c 2 rfl) $$ Hsl; iintro Hsl
  iapply (st_sstore c 2 (sent m c (peer 2 c)) rfl (pay5_val _ _ _ _ hv)) $$ Hsl; iintro Hb
  iapply (st_send m K c 2 _ (dev6_eq c) (owR c (rot 2 c)) 0 (zero_add _).symm rfl (off3_c c) rfl (sem_r c)) $$ [Hb Hd Ho Ht1 Ht2]
  · isplitr; · iexact Hr
    isplitl [Hb]; · iexact Hb
    isplitl [Hd]; · iexact Hd
    isplitl [Ho]; · iexact Ho
    isplitl [Ht1]; · iexact Ht1
    iexact Ht2
  iintro ⟨Hcs, Ho⟩
  iapply (st_wait m K c (wK 1) 1 c (dut_w c 1 1 (by decide)) rfl (credit_w _) 0 (above_zero _)) $$ [Hc1 Ho Ha1]
  · isplitr; · iexact Hr
    isplitr; · iexact Hlev
    isplitl [Hc1]; · iexact Hc1
    isplitl [Ho]; · iexact Ho
    iexact Ha1
  iintro ⟨Ho, Ha1, -, Hp⟩
  ihave Hp := (pay_w_open m c 1 1 c (rot 0 c) rfl) $$ Hp
  icases Hp with ⟨Hs1, Hw1⟩
  iapply (st_ret c)
  iapply Hk
  isplitl [Hcs]; · iexact Hcs
  isplitl [Ho]; · iexact Ho
  isplitl [Hs0]; · iapply (wAny_intro c 0 _); iexact Hs0
  isplitl [Ha1]; · iexact Ha1
  isplitl [Hs1]; · iexact Hs1
  iexact Hw1

/-- Waiting for the block of peer `o` and storing it, widened, into the output's rows `1024 o …`. -/
theorem recv_run (K : Dev nD × Fin 10 → ℕ) (c o : Dev nD) (ho : o ≠ c) (f : Vec F S4096x512 .f32) {q : DmaSem sig} (hq : SemLoc.dma q = csem (rK o))
    {src : Memref sig .tc .vmem S1024x512 .bf16} {dst : Memref sig .tc .vmem S1024x512 .bf16} {h1 : src.view.WordExact} {h2 : dst.view.WordExact}
    (hN : dst.view.dmaCredit = NB)
    {o7 : Fin 3 → ℕ} (ho7 : o7 = ![o.val, 0, 0]) {o8 : Fin 2 → ℕ} (ho8 : o8 = ![1024 * o.val, 0])
    {i7 : ∀ a, o7 a + S1x1024x512.size a ≤ S4x1024x512.size a} {hl : rB.view.LoadsAt (Rect.unit (s := S4x1024x512) o7 S1x1024x512.size i7).toLoadRect}
    {i8 : ∀ a, o8 a + S1024x512.size a ≤ S4096x512.size a} {hl8 : oM.view.LoadsAt (Rect.unit (s := S4096x512) o8 S1024x512.size i8).toLoadRect}
    {pay : Vec F S1x1024x512 .bf16 → FVec F S1024x512 .f32}
    (hpay : ∀ X v, shapeCast S1024x512 v shapeCasts_S1x1024x512_S1024x512 = X → pay v = extf .f32 X bitsLt_bf16_f32)
    {hx : (oM.access (Rect.unit (s := S4096x512) o8 S1024x512.size i8)).Stores Finset.univ} {hm}
    {α : Type} {Q : α → sProp 𝕄} {k : PUnit → Prog (TpuEff nD τ sig (Elt F) Λ₀ .tc) α} :
    iprop(recs m K ∗ levAts L lv ∗ cred (tallyAt (kcell (c, rK o)) () NB) ∗ ow c 0 ∗ atPos EX (kcell (c, rK o)) 0 ∅ 0 ∗ oPts c f)
      ⊢ iprop(((ow c 0 ∗ atPos EX (kcell (c, rK o)) 1 ∅ 0 ∗ rAny c o ∗ oPts c (putRows o f (oblk m c o))) -∗ wpc c (k ⟨⟩) Q)
          -∗ wpc c (.op (.waitDma2 q src dst h1 h2) fun _ => .op (.load rB (Rect.unit (s := S4x1024x512) o7 S1x1024x512.size i7).toLoadRect hl) fun v =>
              .op (.load oM (Rect.unit (s := S4096x512) o8 S1024x512.size i8).toLoadRect hl8) fun _ =>
              .op (.store oM (Rect.unit (s := S4096x512) o8 S1024x512.size i8) (pay v) Finset.univ hx hm) k) Q) := by
  have hb : oblk m c o = extf .f32 (sent m o c) bitsLt_bf16_f32 := if_neg ho
  iintro ⟨#Hr, #Hlev, Hc, Ho, Ha, Hf⟩ Hk
  have e : NB = amtK (rK o) := (amt_r o).symm
  rw [e]
  iapply (st_wait m K c (rK o) 0 o (dut_r c o ho) hq (hN.trans e) 0 (above_zero _)) $$ [Hc Ho Ha]
  · isplitr; · iexact Hr
    isplitr; · iexact Hlev
    isplitl [Hc]; · iexact Hc
    isplitl [Ho]; · iexact Ho
    iexact Ha
  iintro ⟨Ho, Ha, -, Hp⟩
  ihave Hp := (pay_r_open m c o) $$ Hp
  iapply (st_rload c o (sent m o c) ho7) $$ Hp; iintro Hp; iintro %v; iintro %hv
  iapply (st_oload c f) $$ Hf; iintro Hf
  iapply (st_ostore c o f ho8) $$ Hf; iintro Hf
  iapply Hk
  isplitl [Ho]; · iexact Ho
  isplitl [Ha]; · iexact Ha
  isplitl [Hp]; · iapply (rAny_intro c o _); iexact Hp
  rw [hb, ← hpay _ v hv]; iexact Hf

theorem rot_ne_1 (c : Dev nD) : rot 1 c ≠ c := by revert c; decide
theorem rot_ne_2 (c : Dev nD) : rot 2 c ≠ c := by revert c; decide
theorem rot_ne_3 (c : Dev nD) : rot 3 c ≠ c := by revert c; decide
theorem rot_0 (c : Dev nD) : rot 0 c = c := by revert c; decide

/-- The kept block is stored, and the first block received. -/
theorem part7_run (K : Dev nD × Fin 10 → ℕ) (c : Dev nD) (v2 : BitVec 32) (f : Vec F S4096x512 .f32) {Q : BitVec 32 → sProp 𝕄} :
    iprop(recs m K ∗ levAts L lv ∗ owns (c : Thread nD τ) (wSl 1) fullShare (wcols m c (rot 0 c)) ∗ oPts c f
        ∗ cred (tallyAt (kcell (c, rK (rot 3 c))) () NB) ∗ ow c 0 ∗ atPos EX (kcell (c, rK (rot 3 c))) 0 ∅ 0
        ∗ (∀ v, (wAny c 1 ∗ ow c 0 ∗ atPos EX (kcell (c, rK (rot 3 c))) 1 ∅ 0 ∗ rAny c (rot 3 c)
                ∗ oPts c (putRows (rot 3 c) (putRows c f (oblk m c c)) (oblk m c (rot 3 c)))) -∗ Q v))
      ⊢ wpc c (k0_part7 (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5 c v2 (scl m c) (k0_pay2 (xrows m c))) Q := by
  have hk : oblk m c c = kept m c := if_pos rfl
  rw [k0_part7_eq_skeleton]; unfold k0_part7_skel wpc
  simp only [semSignalWord, semWaitWord, smemLoad, smemLoadElt, Prog.lift, Prog.bind_op, Prog.bind_ret, Prog.pure_eq_ret, wp_deviceId]
  iintro ⟨#Hr, #Hlev, Hs1, Hf, Hc, Ho, Ha, Hk⟩
  iapply (st_wload c 1 (wcols m c (rot 0 c)) rfl) $$ Hs1; iintro Hs1; iintro %v; iintro %hv
  iapply (st_oload c f) $$ Hf; iintro Hf
  iapply (st_ostore c c f (off4_c c)) $$ Hf; iintro Hf
  rw [pay6_val _ _ _ _ hv, rot_0, show fblk (scl m c) (k0_pay2 (xrows m c)) (wcols m c c) = oblk m c c from hk.symm]
  iapply (recv_run m K c (rot 3 c) (rot_ne_3 c) (putRows c f (oblk m c c)) (sem_w3 c) (credit_b _) (off7_3 c) (off8_3 c) (pay := k0_pay7) pay7_val) $$ [Hc Ho Ha Hf]
  · isplitr; · iexact Hr
    isplitr; · iexact Hlev
    isplitl [Hc]; · iexact Hc
    isplitl [Ho]; · iexact Ho
    isplitl [Ha]; · iexact Ha
    iexact Hf
  iintro ⟨Ho, Ha, Hv, Hf⟩
  iapply (st_ret c)
  iapply Hk
  isplitl [Hs1]; · iapply (wAny_intro c 1 _); iexact Hs1
  isplitl [Ho]; · iexact Ho
  isplitl [Ha]; · iexact Ha
  isplitl [Hv]; · iexact Hv
  iexact Hf

/-- The two other blocks are received. -/
theorem part8_run (K : Dev nD × Fin 10 → ℕ) (c : Dev nD) (v2 v214 : BitVec 32) (f : Vec F S4096x512 .f32) {Q : PUnit → sProp 𝕄} :
    iprop(recs m K ∗ levAts L lv ∗ oPts c f ∗ ow c 0
        ∗ cred (tallyAt (kcell (c, rK (rot 1 c))) () NB) ∗ atPos EX (kcell (c, rK (rot 1 c))) 0 ∅ 0
        ∗ cred (tallyAt (kcell (c, rK (rot 2 c))) () NB) ∗ atPos EX (kcell (c, rK (rot 2 c))) 0 ∅ 0
        ∗ ((ow c 0 ∗ atPos EX (kcell (c, rK (rot 1 c))) 1 ∅ 0 ∗ rAny c (rot 1 c) ∗ atPos EX (kcell (c, rK (rot 2 c))) 1 ∅ 0 ∗ rAny c (rot 2 c)
                ∗ oPts c (putRows (rot 2 c) (putRows (rot 1 c) f (oblk m c (rot 1 c))) (oblk m c (rot 2 c)))) -∗ Q ⟨⟩))
      ⊢ wpc c (k0_part8 (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5 c v2 v214) Q := by
  rw [k0_part8_eq_skeleton]; unfold k0_part8_skel wpc
  simp only [semSignalWord, semWaitWord, smemLoad, smemLoadElt, Prog.lift, Prog.bind_op, Prog.bind_ret, Prog.pure_eq_ret, wp_deviceId]
  iintro ⟨#Hr, #Hlev, Hf, Ho, Hc1, Ha1, Hc2, Ha2, Hk⟩
  iapply (recv_run m K c (rot 1 c) (rot_ne_1 c) f (sem_w1 c) (credit_b _) (off7_1 c) (off8_1 c) (pay := k0_pay8) pay8_val) $$ [Hc1 Ho Ha1 Hf]
  · isplitr; · iexact Hr
    isplitr; · iexact Hlev
    isplitl [Hc1]; · iexact Hc1
    isplitl [Ho]; · iexact Ho
    isplitl [Ha1]; · iexact Ha1
    iexact Hf
  iintro ⟨Ho, Ha1, Hv1, Hf⟩
  iapply (recv_run m K c (rot 2 c) (rot_ne_2 c) _ (sem_w2 c) (credit_b _) (off7_2 c) (off8_2 c) (pay := k0_pay9) pay9_val) $$ [Hc2 Ho Ha2 Hf]
  · isplitr; · iexact Hr
    isplitr; · iexact Hlev
    isplitl [Hc2]; · iexact Hc2
    isplitl [Ho]; · iexact Ho
    isplitl [Ha2]; · iexact Ha2
    iexact Hf
  iintro ⟨Ho, Ha2, Hv2, Hf⟩
  iapply (st_ret c)
  iapply Hk
  isplitl [Ho]; · iexact Ho
  isplitl [Ha1]; · iexact Ha1
  isplitl [Hv1]; · iexact Hv1
  isplitl [Ha2]; · iexact Ha2
  isplitl [Hv2]; · iexact Hv2
  iexact Hf

end Cert.KProof

end
-- ==== Proof.Slots.lean ====
/-
# Slots, positions and tokens: what a device starts with and ends with
-/
module

public import proofs.«01_k».proof.Proof.Parts
public import Idealize.ShloMosaic.Lib.Ring
public import Idealize.ShloMosaic.Lib.Pipeline.ValueKit.Geometry

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cutting the buffers into slots and back -/

/-- The slot an element of a buffer lies in. -/
def cell0 (i : cc0_scratch0.ty.shape.Idx) : ℕ := (i 0).val
def cell1 (i : cc0_scratch1.ty.shape.Idx) : ℕ := (i 0).val
def cell2 (i : cc0_scratch2.ty.shape.Idx) : ℕ := (i 0).val
def cell3 (i : main_arg1.ty.shape.Idx) : ℕ := (i 1).val / 512
theorem cell0_lt (i : cc0_scratch0.ty.shape.Idx) : cell0 i < 3 := (i 0).isLt
theorem cell1_lt (i : cc0_scratch1.ty.shape.Idx) : cell1 i < 4 := (i 0).isLt
theorem cell2_lt (i : cc0_scratch2.ty.shape.Idx) : cell2 i < 2 := (i 0).isLt
theorem cell3_lt (i : main_arg1.ty.shape.Idx) : cell3 i < 4 := by
  have h : (i 1).val < 2048 := (i 1).isLt
  unfold cell3; omega

theorem sSl_cell (d : Fin 3) (i : cc0_scratch0.ty.shape.Idx) : i ∈ (sSl d).view.set ↔ cell0 i = d.val := by
  unfold sSl cell0; rw [Memref.set_view_squeeze]
  refine ValueKit.mem_set_slice_whole_iff cc0_scratch0 (sR d) i (Rect.mem_set_unit.trans ⟨fun h => ?_, fun h a => ?_⟩)
  · have := h 0; simp at this; omega
  · have h1 := (i 1).isLt; have h2 := (i 2).isLt
    fin_cases a <;> simp at * <;> omega
theorem rSl_cell (o : Fin 4) (i : cc0_scratch1.ty.shape.Idx) : i ∈ (rSl o).view.set ↔ cell1 i = o.val := by
  unfold rSl cell1; rw [Memref.set_view_squeeze]
  refine ValueKit.mem_set_slice_whole_iff cc0_scratch1 (rR o) i (Rect.mem_set_unit.trans ⟨fun h => ?_, fun h a => ?_⟩)
  · have := h 0; simp at this; omega
  · have h1 := (i 1).isLt; have h2 := (i 2).isLt
    fin_cases a <;> simp at * <;> omega
theorem wSl_cell (s : Fin 2) (i : cc0_scratch2.ty.shape.Idx) : i ∈ (wSl s).view.set ↔ cell2 i = s.val := by
  unfold wSl cell2; rw [Memref.set_view_squeeze]
  refine ValueKit.mem_set_slice_whole_iff cc0_scratch2 (wR s) i (Rect.mem_set_unit.trans ⟨fun h => ?_, fun h a => ?_⟩)
  · have := h 0; simp at this; omega
  · have h1 := (i 1).isLt; have h2 := (i 2).isLt
    fin_cases a <;> simp at * <;> omega
theorem wCl_cell (t : Fin 4) (i : main_arg1.ty.shape.Idx) : i ∈ (wCl t).view.set ↔ cell3 i = t.val := by
  unfold cell3
  refine ValueKit.mem_set_slice_whole_iff main_arg1 (cR t) i (Rect.mem_set_unit.trans ⟨fun h => ?_, fun h a => ?_⟩)
  · have := h 1; simp at this; omega
  · have h1 := (i 0).isLt; have h2 := (i 1).isLt
    fin_cases a <;> simp at * <;> omega

/-- Sets told apart by a number attached to their elements are disjoint, -/
theorem disj_of_cell {T : Type} {n : ℕ} [DecidableEq T] (K : Fin n → Finset T) (g : T → ℕ) (h : ∀ t i, i ∈ K t ↔ g i = t.val) (t t' : Fin n) (hn : t ≠ t') :
    Disjoint (K t) (K t') :=
  Finset.disjoint_left.mpr fun i hi hi' => hn (Fin.ext (((h t i).mp hi).symm.trans ((h t' i).mp hi')))
/-- and cover everything when every number occurs. -/
theorem cover_of_cell {T : Type} {n : ℕ} [DecidableEq T] [Fintype T] (K : Fin n → Finset T) (g : T → ℕ) (h : ∀ t i, i ∈ K t ↔ g i = t.val) (hg : ∀ i, g i < n) :
    Finset.univ.biUnion K = Finset.univ :=
  Finset.eq_univ_iff_forall.mpr fun i => Finset.mem_biUnion.mpr ⟨⟨g i, hg i⟩, Finset.mem_univ _, (h _ i).mpr rfl⟩

theorem blocks_eq {ℓ : Loc nD τ sig} {n : ℕ} (K : Fin n → Finset (Idx ℓ)) (g : Idx ℓ → ℕ) (h : ∀ t i, i ∈ K t ↔ g i = t.val) (hg : ∀ i, g i < n) (f : Buf (Elt F) ℓ) :
    (ℓ ↦{fullShare} f : sProp 𝕄) = bigSep Finset.univ fun t => ℓ ↦[K t]{fullShare} f := by
  rw [← pointsTo_biUnion Finset.univ K (fun t _ t' _ hn => disj_of_cell K g h t t' hn), cover_of_cell K g h hg]

/-- A buffer cut into slots: each at some contents, and back. -/
theorem slots_split {ℓ : Loc nD τ sig} {n : ℕ} (K : Fin n → Finset (Idx ℓ)) (g : Idx ℓ → ℕ) (h : ∀ t i, i ∈ K t ↔ g i = t.val) (hg : ∀ i, g i < n) :
    iprop(∃ f : Buf (Elt F) ℓ, ℓ ↦{fullShare} f) ⊢ (bigSep Finset.univ fun t => iprop(∃ f : Buf (Elt F) ℓ, ℓ ↦[K t]{fullShare} f) : sProp 𝕄) := by
  iintro ⟨%f, H⟩
  iapply ((Entails.of_eq (blocks_eq K g h hg f)).trans (bigSep_mono fun t _ => show (ℓ ↦[K t]{fullShare} f : sProp 𝕄) ⊢ iprop(∃ f : Buf (Elt F) ℓ, ℓ ↦[K t]{fullShare} f) from by
    iintro H; iexists f; iexact H))
  iexact H
theorem slots_join {ℓ : Loc nD τ sig} {n : ℕ} (f₀ : Buf (Elt F) ℓ) (K : Fin n → Finset (Idx ℓ)) (g : Idx ℓ → ℕ) (h : ∀ t i, i ∈ K t ↔ g i = t.val) (hg : ∀ i, g i < n) :
    (bigSep Finset.univ fun t => iprop(∃ f : Buf (Elt F) ℓ, ℓ ↦[K t]{fullShare} f) : sProp 𝕄) ⊢ iprop(∃ f : Buf (Elt F) ℓ, ℓ ↦{fullShare} f) := by
  have : Nonempty (Buf (Elt F) ℓ) := ⟨f₀⟩
  refine (BI.bigSep_exists_pi Finset.univ (fun t (f : Buf (Elt F) ℓ) => (ℓ ↦[K t]{fullShare} f : sProp 𝕄))).trans ?_
  iintro ⟨%fs, H⟩
  ihave H := (pointsTo_biUnion_join Finset.univ K fs f₀ (fun t _ t' _ hn => disj_of_cell K g h t t' hn)) $$ H
  rw [cover_of_cell K g h hg]
  icases H with ⟨%f, -, H⟩
  iexists f; iexact H

/-- The three scratch buffers of device `c`, each whole at some contents. -/
def s0Any (c : Dev nD) : sProp 𝕄 := iprop(∃ f : Buf (Elt F) ((c : Thread nD τ).loc cc0_scratch0), ((c : Thread nD τ).loc cc0_scratch0) ↦{fullShare} f)
def s1Any (c : Dev nD) : sProp 𝕄 := iprop(∃ f : Buf (Elt F) ((c : Thread nD τ).loc cc0_scratch1), ((c : Thread nD τ).loc cc0_scratch1) ↦{fullShare} f)
def s2Any (c : Dev nD) : sProp 𝕄 := iprop(∃ f : Buf (Elt F) ((c : Thread nD τ).loc cc0_scratch2), ((c : Thread nD τ).loc cc0_scratch2) ↦{fullShare} f)
/-- `w` of device `c`, as launched. -/
def w1Pts (c : Dev nD) : sProp 𝕄 := ((c : Thread nD τ).loc main_arg1) ↦{fullShare} m ((c : Thread nD τ).loc main_arg1)

theorem sAny_iff (c : Dev nD) (d : Fin 3) :
    (sAny c d : sProp 𝕄) ⊣⊢ iprop(∃ f : Buf (Elt F) ((c : Thread nD τ).loc cc0_scratch0), ((c : Thread nD τ).loc cc0_scratch0) ↦[(sSl d).view.set]{fullShare} f) := by
  unfold sAny ownsSat
  constructor
  · iintro ⟨%f, -, H⟩; iexists f; iexact H
  · iintro ⟨%f, H⟩; iexists f; isplitr
    · ipureintro; trivial
    iexact H
theorem rAny_iff (c : Dev nD) (d : Fin 4) :
    (rAny c d : sProp 𝕄) ⊣⊢ iprop(∃ f : Buf (Elt F) ((c : Thread nD τ).loc cc0_scratch1), ((c : Thread nD τ).loc cc0_scratch1) ↦[(rSl d).view.set]{fullShare} f) := by
  unfold rAny ownsSat
  constructor
  · iintro ⟨%f, -, H⟩; iexists f; iexact H
  · iintro ⟨%f, H⟩; iexists f; isplitr
    · ipureintro; trivial
    iexact H
theorem wAny_iff (c : Dev nD) (d : Fin 2) :
    (wAny c d : sProp 𝕄) ⊣⊢ iprop(∃ f : Buf (Elt F) ((c : Thread nD τ).loc cc0_scratch2), ((c : Thread nD τ).loc cc0_scratch2) ↦[(wSl d).view.set]{fullShare} f) := by
  unfold wAny ownsSat
  constructor
  · iintro ⟨%f, -, H⟩; iexists f; iexact H
  · iintro ⟨%f, H⟩; iexists f; isplitr
    · ipureintro; trivial
    iexact H

theorem s0_list (c : Dev nD) : (bigSep Finset.univ fun d => sAny c d : sProp 𝕄) = iprop(sAny c 0 ∗ sAny c 1 ∗ sAny c 2) :=
  bigSep_univ_eq_bigSepL [0, 1, 2] (by decide) (by decide) _
theorem s1_list (c : Dev nD) : (bigSep Finset.univ fun o => rAny c o : sProp 𝕄) = iprop(rAny c c ∗ rAny c (rot 1 c) ∗ rAny c (rot 2 c) ∗ rAny c (rot 3 c)) :=
  bigSep_univ_eq_bigSepL [c, rot 1 c, rot 2 c, rot 3 c] (by revert c; decide) (by revert c; decide) _
theorem s2_list (c : Dev nD) : (bigSep Finset.univ fun d => wAny c d : sProp 𝕄) = iprop(wAny c 0 ∗ wAny c 1) :=
  bigSep_univ_eq_bigSepL [0, 1] (by decide) (by decide) _
theorem w1_list (c : Dev nD) : (bigSep Finset.univ fun t => wHeld m c t : sProp 𝕄)
    = iprop(wHeld m c (rot 0 c) ∗ wHeld m c (rot 1 c) ∗ wHeld m c (rot 2 c) ∗ wHeld m c (rot 3 c)) :=
  bigSep_univ_eq_bigSepL [rot 0 c, rot 1 c, rot 2 c, rot 3 c] (by revert c; decide) (by revert c; decide) _

theorem s0_split (c : Dev nD) : (s0Any c : sProp 𝕄) ⊢ iprop(sAny c 0 ∗ sAny c 1 ∗ sAny c 2) := by
  rw [← s0_list]
  exact (slots_split (ℓ := (c : Thread nD τ).loc cc0_scratch0) (fun d => (sSl d).view.set) cell0 sSl_cell cell0_lt).trans (bigSep_mono fun d _ => (sAny_iff c d).2)
include m in
theorem s0_join (c : Dev nD) : iprop(sAny c 0 ∗ sAny c 1 ∗ sAny c 2) ⊢ (s0Any c : sProp 𝕄) := by
  rw [← s0_list]
  exact (bigSep_mono fun d _ => (sAny_iff c d).1).trans
    (slots_join (m ((c : Thread nD τ).loc cc0_scratch0)) (fun d => (sSl d).view.set) cell0 sSl_cell cell0_lt)
theorem s1_split (c : Dev nD) : (s1Any c : sProp 𝕄) ⊢ iprop(rAny c c ∗ rAny c (rot 1 c) ∗ rAny c (rot 2 c) ∗ rAny c (rot 3 c)) := by
  rw [← s1_list]
  exact (slots_split (ℓ := (c : Thread nD τ).loc cc0_scratch1) (fun d => (rSl d).view.set) cell1 rSl_cell cell1_lt).trans (bigSep_mono fun d _ => (rAny_iff c d).2)
include m in
theorem s1_join (c : Dev nD) : iprop(rAny c c ∗ rAny c (rot 1 c) ∗ rAny c (rot 2 c) ∗ rAny c (rot 3 c)) ⊢ (s1Any c : sProp 𝕄) := by
  rw [← s1_list]
  exact (bigSep_mono fun d _ => (rAny_iff c d).1).trans
    (slots_join (m ((c : Thread nD τ).loc cc0_scratch1)) (fun d => (rSl d).view.set) cell1 rSl_cell cell1_lt)
theorem s2_split (c : Dev nD) : (s2Any c : sProp 𝕄) ⊢ iprop(wAny c 0 ∗ wAny c 1) := by
  rw [← s2_list]
  exact (slots_split (ℓ := (c : Thread nD τ).loc cc0_scratch2) (fun d => (wSl d).view.set) cell2 wSl_cell cell2_lt).trans (bigSep_mono fun d _ => (wAny_iff c d).2)
include m in
theorem s2_join (c : Dev nD) : iprop(wAny c 0 ∗ wAny c 1) ⊢ (s2Any c : sProp 𝕄) := by
  rw [← s2_list]
  exact (bigSep_mono fun d _ => (wAny_iff c d).1).trans
    (slots_join (m ((c : Thread nD τ).loc cc0_scratch2)) (fun d => (wSl d).view.set) cell2 wSl_cell cell2_lt)
theorem w1_eq (c : Dev nD) : (w1Pts m c : sProp 𝕄) = iprop(wHeld m c (rot 0 c) ∗ wHeld m c (rot 1 c) ∗ wHeld m c (rot 2 c) ∗ wHeld m c (rot 3 c)) := by
  rw [← w1_list]
  exact blocks_eq (ℓ := (c : Thread nD τ).loc main_arg1) (fun t => (wCl t).view.set) cell3 wCl_cell cell3_lt _

/-! ## A device's positions and the tokens it pays with -/

/-- The tokens of the duties device `c` pays: three barrier units, three receive credits, its own three send returns,
    its own four copies of columns of `w`. -/
abbrev tkOf (cj : Dev nD × Fin 13) : GSem nD τ sig × ℕ × Dev nD := match cj.2 with
  | 0 => (kcell (rot 1 cj.1, 0), 0, cj.1) | 1 => (kcell (rot 2 cj.1, 0), 0, cj.1) | 2 => (kcell (rot 3 cj.1, 0), 0, cj.1)
  | 3 => (kcell (rot 1 cj.1, rK cj.1), 0, cj.1) | 4 => (kcell (rot 2 cj.1, rK cj.1), 0, cj.1) | 5 => (kcell (rot 3 cj.1, rK cj.1), 0, cj.1)
  | 6 => (kcell (cj.1, sK 0), 0, cj.1) | 7 => (kcell (cj.1, sK 1), 0, cj.1) | 8 => (kcell (cj.1, sK 2), 0, cj.1)
  | 9 => (kcell (cj.1, wK 0), 0, cj.1) | 10 => (kcell (cj.1, wK 0), 1, cj.1) | 11 => (kcell (cj.1, wK 1), 0, cj.1) | 12 => (kcell (cj.1, wK 1), 1, cj.1)

def toks (c : Dev nD) : sProp 𝕄 := bigSep Finset.univ fun j : Fin 13 => dutyTok EX (tkOf (c, j)).1 (tkOf (c, j)).2.1 (tkOf (c, j)).2.2
theorem toks_eq (c : Dev nD) : (toks c : sProp 𝕄)
    = iprop(dutyTok EX (kcell (rot 1 c, 0)) 0 c ∗ dutyTok EX (kcell (rot 2 c, 0)) 0 c ∗ dutyTok EX (kcell (rot 3 c, 0)) 0 c
        ∗ dutyTok EX (kcell (rot 1 c, rK c)) 0 c ∗ dutyTok EX (kcell (rot 2 c, rK c)) 0 c ∗ dutyTok EX (kcell (rot 3 c, rK c)) 0 c
        ∗ dutyTok EX (kcell (c, sK 0)) 0 c ∗ dutyTok EX (kcell (c, sK 1)) 0 c ∗ dutyTok EX (kcell (c, sK 2)) 0 c
        ∗ dutyTok EX (kcell (c, wK 0)) 0 c ∗ dutyTok EX (kcell (c, wK 0)) 1 c ∗ dutyTok EX (kcell (c, wK 1)) 0 c ∗ dutyTok EX (kcell (c, wK 1)) 1 c) :=
  (bigSep_univ_eq_bigSepL [0, 1, 2, 3, 4, 5, 6, 7, 8, 9, 10, 11, 12] (by decide) (by decide) (fun j : Fin 13 => dutyTok EX (tkOf (c, j)).1 (tkOf (c, j)).2.1 (tkOf (c, j)).2.2)).trans (by
    simp only [bigSepL, tkOf]; rfl)

/-- A device's ten cells at the rounds `R`. -/
def atAll (c : Dev nD) (R : Fin 10 → ℕ) : sProp 𝕄 := bigSep Finset.univ fun k : Fin 10 => atPos EX (kcell (c, k)) (R k) ∅ 0
theorem atAll_eq (c : Dev nD) (R : Fin 10 → ℕ) : (atAll c R : sProp 𝕄)
    = iprop(atPos EX (kcell (c, 0)) (R 0) ∅ 0 ∗ atPos EX (kcell (c, sK 0)) (R (sK 0)) ∅ 0 ∗ atPos EX (kcell (c, sK 1)) (R (sK 1)) ∅ 0 ∗ atPos EX (kcell (c, sK 2)) (R (sK 2)) ∅ 0
        ∗ atPos EX (kcell (c, rK c)) (R (rK c)) ∅ 0 ∗ atPos EX (kcell (c, rK (rot 1 c))) (R (rK (rot 1 c))) ∅ 0
        ∗ atPos EX (kcell (c, rK (rot 2 c))) (R (rK (rot 2 c))) ∅ 0 ∗ atPos EX (kcell (c, rK (rot 3 c))) (R (rK (rot 3 c))) ∅ 0
        ∗ atPos EX (kcell (c, wK 0)) (R (wK 0)) ∅ 0 ∗ atPos EX (kcell (c, wK 1)) (R (wK 1)) ∅ 0) :=
  bigSep_univ_eq_bigSepL [0, sK 0, sK 1, sK 2, rK c, rK (rot 1 c), rK (rot 2 c), rK (rot 3 c), wK 0, wK 1] (by revert c; decide) (by revert c; decide) _

/-- The rounds at the start, and at the end: two of a weight cell, none of the receive cell a device does not use. -/
def rnd0 (_ : Fin 10) : ℕ := 0
def rnd1 (c : Dev nD) (k : Fin 10) : ℕ := if k = rK c then 0 else if k.val < 8 then 1 else 2

theorem dut_end (c : Dev nD) (k : Fin 10) (r : ℕ) (h : rnd1 c k ≤ r) : dutK c k r = ∅ := by
  unfold rnd1 at h
  by_cases h1 : k = rK c
  · rw [h1]; exact dut_self c r
  · rw [if_neg h1] at h
    by_cases h2 : k.val < 8
    · rw [if_pos h2] at h; exact dut_later1 c k h2 r h
    · rw [if_neg h2] at h; exact dut_later c k r h

/-- All ten cells close: their counters at zero come back. -/
theorem close_all (K : Dev nD × Fin 10 → ℕ) (c : Dev nD) :
    iprop(recs m K ∗ atAll c (rnd1 c)) ⊢ |={Set.univ}=> (bigSep Finset.univ fun k : Fin 10 => semVal (kcell (c, k)) 0 : sProp 𝕄) := by
  unfold atAll
  refine (BI.bigSep_with_persistent (R := recs m K) (Ψ := fun k : Fin 10 => iprop(|={Set.univ}=> semVal (kcell (c, k)) 0)) fun k _ => ?_).trans (bigSep_fupd _ _)
  iintro ⟨#Hr, Ha⟩
  ihave #Hi := (recs_at m K (c, k)) $$ Hr
  icases Hi with ⟨#Hi, -⟩
  iapply (Rounds.cell_close EX (Xs m) (Set.mem_univ (K (c, k))) (fun h => h) (R := rnd1 c k) (fun r h => (duties_k m c k r).trans (dut_end c k r h)))
  isplitr; · iexact Hi
  iexact Ha

end Cert.KProof

end
-- ==== Proof.Body.lean ====
/-
# The kernel's body on one device
-/
module

public import proofs.«01_k».proof.Proof.Slots

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem rnd1_0 (c : Dev nD) : rnd1 c 0 = 1 := by revert c; decide
theorem rnd1_s (c : Dev nD) (d : Fin 3) : rnd1 c (sK d) = 1 := by revert c d; decide
theorem rnd1_c (c : Dev nD) : rnd1 c (rK c) = 0 := by revert c; decide
theorem rnd1_r (c o : Dev nD) (h : o ≠ c) : rnd1 c (rK o) = 1 := by revert c o; decide
theorem rnd1_w (c : Dev nD) (s : Fin 2) : rnd1 c (wK s) = 2 := by revert c s; decide

theorem st_bind (c : Dev nD) {α β : Type} (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := by
  unfold wpc; rw [wp_bind]

theorem sent_sAny (c : Dev nD) (d : Fin 3) (o : Dev nD) : (payK m c (sK d) 0 o : sProp 𝕄) ⊢ sAny c d :=
  (Entails.of_eq (pay_s m c d 0 o)).trans (ownsSat_intro (Φ := fun _ => True) (c : Thread nD τ) (sSl d) fullShare trivial)
/-- Waiting for the return of send slot `d`. -/
theorem st_swait (K : Dev nD × Fin 10 → ℕ) (c : Dev nD) (d : Fin 3) {q : DmaSem sig} (hq : SemLoc.dma q = csem (sK d))
    {src dst : Memref sig .tc .vmem S1024x512 .bf16} {h1 : src.view.WordExact} {h2 : dst.view.WordExact}
    {α : Type} {Q : α → sProp 𝕄} {k : PUnit → Prog (TpuEff nD τ sig (Elt F) Λ₀ .tc) α} :
    iprop(recs m K ∗ levAts L lv ∗ cred (tallyAt (kcell (c, sK d)) () NB) ∗ ow c 0 ∗ atPos EX (kcell (c, sK d)) 0 ∅ 0)
      ⊢ iprop(((ow c 0 ∗ atPos EX (kcell (c, sK d)) 1 ∅ 0 ∗ sAny c d) -∗ wpc c (k ⟨⟩) Q) -∗ wpc c (.op (.waitDma2 q src dst h1 h2) k) Q) := by
  iintro ⟨#Hr, #Hlev, Hc, Ho, Ha⟩ Hk
  have e : NB = amtK (sK d) := (amt_s d).symm
  rw [e]
  iapply (st_wait m K c (sK d) 0 c (dut_s c d) hq ((credit_b _).trans e) 0 (above_zero _)) $$ [Hc Ho Ha]
  · isplitr; · iexact Hr
    isplitr; · iexact Hlev
    isplitl [Hc]; · iexact Hc
    isplitl [Ho]; · iexact Ho
    iexact Ha
  iintro ⟨Ho, Ha, -, Hp⟩
  iapply Hk
  isplitl [Ho]; · iexact Ho
  isplitl [Ha]; · iexact Ha
  iapply (sent_sAny m c d c); iexact Hp

/-- The result of device `c`: the four row blocks, written one after another over `f`. -/
def outOf (c : Dev nD) (f : Vec F S4096x512 .f32) : Vec F S4096x512 .f32 :=
  putRows (rot 2 c) (putRows (rot 1 c) (putRows (rot 3 c) (putRows c f (oblk m c c)) (oblk m c (rot 3 c))) (oblk m c (rot 1 c))) (oblk m c (rot 2 c))

/-- The kernel's body on device `c`, run from the exchange's start to its end. -/
theorem body_run (K : Dev nD × Fin 10 → ℕ) (c : Dev nD) (f : Vec F S4096x512 .f32) {Q : PUnit → sProp 𝕄} :
    iprop(recs m K ∗ levAts L lv ∗ atAll c rnd0 ∗ toks c
        ∗ cred (tallyAt (kcell (c, 0)) () 3) ∗ cred (tallyAt (kcell (c, rK (rot 1 c))) () NB) ∗ cred (tallyAt (kcell (c, rK (rot 2 c))) () NB) ∗ cred (tallyAt (kcell (c, rK (rot 3 c))) () NB)
        ∗ w1Pts m c ∗ s0Any c ∗ s1Any c ∗ s2Any c ∗ ow c (O₀ c)
        ∗ xPts c (xrows m c) ∗ pPts c (m ((c : Thread nD τ).loc main_arg2)) ∗ qPts c (m ((c : Thread nD τ).loc main_arg3)) ∗ oPts c f
        ∗ (((bigSep Finset.univ fun k : Fin 10 => semVal (kcell (c, k)) 0) ∗ w1Pts m c ∗ s0Any c ∗ s1Any c ∗ s2Any c ∗ ow c 0
              ∗ xPts c (xrows m c) ∗ pPts c (m ((c : Thread nD τ).loc main_arg2)) ∗ qPts c (m ((c : Thread nD τ).loc main_arg3)) ∗ oPts c (outOf m c f)) -∗ Q ⟨⟩))
      ⊢ wpc c (cc0_body (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5) Q := by
  rw [cc0_body_eq_skeleton, atAll_eq, toks_eq, w1_eq]; unfold cc0_body_skel
  iintro ⟨#Hr, #Hlev, ⟨Ab, As0, As1, As2, Arc, Ar1, Ar2, Ar3, Aw0, Aw1⟩, ⟨Tb1, Tb2, Tb3, Tr1, Tr2, Tr3, Ts0, Ts1, Ts2, Tw00, Tw01, Tw10, Tw11⟩,
    Cb, Cr1, Cr2, Cr3, ⟨W0, W1, W2, W3⟩, HS, HR, HX, Ho, Hx, Hp, Hq, Hf, Hk⟩
  ihave HS := (s0_split (F := F) c) $$ HS
  icases HS with ⟨S0, S1, S2⟩
  ihave HR := (s1_split (F := F) c) $$ HR
  icases HR with ⟨Rc, R1, R2, R3⟩
  ihave HX := (s2_split (F := F) c) $$ HX
  icases HX with ⟨X0, X1⟩
  iapply (st_bind c)
  iapply (part1_run m K c)
  isplitr; · iexact Hr
  isplitl [W1]; · iexact W1
  isplitl [X0]; · iexact X0
  isplitl [Tw00]; · iexact Tw00
  isplitl [Ho]; · iexact Ho
  isplitl [Tb1]; · iexact Tb1
  isplitl [R1]; · iexact R1
  iintro %v2 %v27 %v28 %v29 %v30 ⟨Cw0, Ho⟩
  iapply (st_bind c)
  iapply (part2_run m K c _ _ _ _ _)
  isplitr; · iexact Hr
  isplitr; · iexact Hlev
  isplitl [Ho]; · iexact Ho
  isplitl [Tb2]; · iexact Tb2
  isplitl [R2]; · iexact R2
  isplitl [Tb3]; · iexact Tb3
  isplitl [R3]; · iexact R3
  isplitl [Cb]; · iexact Cb
  isplitl [Ab]; · iexact Ab
  isplitl [Hp]; · iexact Hp
  isplitl [Hq]; · iexact Hq
  isplitl [Hx]; · iexact Hx
  iintro ⟨Ho, Ab, ⟨P1, P2, P3⟩, Hp, Hq, Hx⟩
  iapply (st_bind c)
  iapply (part3_run m K c _)
  isplitr; · iexact Hr
  isplitr; · iexact Hlev
  isplitl [W3]; · iexact W3
  isplitl [X1]; · iexact X1
  isplitl [Tw10]; · iexact Tw10
  isplitl [Cw0]; · iexact Cw0
  isplitl [Ho]; · iexact Ho
  isplitl [Aw0]; · iexact Aw0
  isplitl [S0]; · iexact S0
  iintro ⟨Cw1, Ho, Aw0, #Gw0, X0, W1, S0⟩
  iapply (st_bind c)
  iapply (part4_run m K c _)
  isplitr; · iexact Hr
  isplitr; · iexact Hlev
  isplitl [S0]; · iexact S0
  isplitl [P1]; · iexact P1
  isplitl [Ho]; · iexact Ho
  isplitl [Ts0]; · iexact Ts0
  isplitl [Tr1]; · iexact Tr1
  isplitl [W2]; · iexact W2
  isplitl [X0]; · iexact X0
  isplitl [Tw01]; · iexact Tw01
  isplitr; · iexact Gw0
  isplitl [Cw1]; · iexact Cw1
  isplitl [Aw1]; · iexact Aw1
  isplitl [S1]; · iexact S1
  iintro ⟨Cs0, Cw0, Ho, Aw1, #Gw1, X1, W3, S1⟩
  iapply (st_bind c)
  iapply (part5_run m K c _)
  isplitr; · iexact Hr
  isplitr; · iexact Hlev
  isplitl [S1]; · iexact S1
  isplitl [P3]; · iexact P3
  isplitl [Ho]; · iexact Ho
  isplitl [Ts1]; · iexact Ts1
  isplitl [Tr3]; · iexact Tr3
  isplitl [W0]; · iexact W0
  isplitl [X1]; · iexact X1
  isplitl [Tw11]; · iexact Tw11
  isplitr; · iexact Gw1
  isplitl [Cw0]; · iexact Cw0
  isplitl [Aw0]; · iexact Aw0
  iintro ⟨Cs1, Cw1, Ho, Aw0, X0, W2⟩
  iapply (st_bind c)
  iapply (part6_run m K c _)
  isplitr; · iexact Hr
  isplitr; · iexact Hlev
  isplitl [X0]; · iexact X0
  isplitl [S2]; · iexact S2
  isplitl [P2]; · iexact P2
  isplitl [Ho]; · iexact Ho
  isplitl [Ts2]; · iexact Ts2
  isplitl [Tr2]; · iexact Tr2
  isplitl [Cw1]; · iexact Cw1
  isplitl [Aw1]; · iexact Aw1
  iintro ⟨Cs2, Ho, X0, Aw1, X1, W0⟩
  iapply (st_bind c)
  iapply (part7_run m K c _ f)
  isplitr; · iexact Hr
  isplitr; · iexact Hlev
  isplitl [X1]; · iexact X1
  isplitl [Hf]; · iexact Hf
  isplitl [Cr3]; · iexact Cr3
  isplitl [Ho]; · iexact Ho
  isplitl [Ar3]; · iexact Ar3
  iintro %v214 ⟨X1, Ho, Ar3, R3, Hf⟩
  iapply (st_bind c)
  iapply (part8_run m K c _ _ _)
  isplitr; · iexact Hr
  isplitr; · iexact Hlev
  isplitl [Hf]; · iexact Hf
  isplitl [Ho]; · iexact Ho
  isplitl [Cr1]; · iexact Cr1
  isplitl [Ar1]; · iexact Ar1
  isplitl [Cr2]; · iexact Cr2
  isplitl [Ar2]; · iexact Ar2
  iintro ⟨Ho, Ar1, R1, Ar2, R2, Hf⟩
  unfold wpc
  simp only [Prog.lift, Prog.bind_op, Prog.bind_ret, Prog.pure_eq_ret]
  iapply (st_swait m K c 0 rfl) $$ [Cs0 Ho As0]
  · isplitr; · iexact Hr
    isplitr; · iexact Hlev
    isplitl [Cs0]; · iexact Cs0
    isplitl [Ho]; · iexact Ho
    iexact As0
  iintro ⟨Ho, As0, S0⟩
  iapply (st_swait m K c 1 rfl) $$ [Cs1 Ho As1]
  · isplitr; · iexact Hr
    isplitr; · iexact Hlev
    isplitl [Cs1]; · iexact Cs1
    isplitl [Ho]; · iexact Ho
    iexact As1
  iintro ⟨Ho, As1, S1⟩
  iapply (st_swait m K c 2 rfl) $$ [Cs2 Ho As2]
  · isplitr; · iexact Hr
    isplitr; · iexact Hlev
    isplitl [Cs2]; · iexact Cs2
    isplitl [Ho]; · iexact Ho
    iexact As2
  iintro ⟨Ho, As2, S2⟩
  imod (close_all m K c) $$ [Ab As0 As1 As2 Arc Ar1 Ar2 Ar3 Aw0 Aw1] with Hz
  · isplitr; · iexact Hr
    rw [atAll_eq, rnd1_0, rnd1_s, rnd1_s, rnd1_s, rnd1_c, rnd1_r c _ (rot_ne_1 c), rnd1_r c _ (rot_ne_2 c), rnd1_r c _ (rot_ne_3 c), rnd1_w, rnd1_w]
    isplitl [Ab]; · iexact Ab
    isplitl [As0]; · iexact As0
    isplitl [As1]; · iexact As1
    isplitl [As2]; · iexact As2
    isplitl [Arc]; · iexact Arc
    isplitl [Ar1]; · iexact Ar1
    isplitl [Ar2]; · iexact Ar2
    isplitl [Ar3]; · iexact Ar3
    isplitl [Aw0]; · iexact Aw0
    iexact Aw1
  iapply (st_ret c)
  iapply Hk
  isplitl [Hz]; · iexact Hz
  isplitl [W0 W1 W2 W3]
  · isplitl [W0]; · iexact W0
    isplitl [W1]; · iexact W1
    isplitl [W2]; · iexact W2
    iexact W3
  isplitl [S0 S1 S2]
  · iapply (s0_join m c)
    isplitl [S0]; · iexact S0
    isplitl [S1]; · iexact S1
    iexact S2
  isplitl [Rc R1 R2 R3]
  · iapply (s1_join m c)
    isplitl [Rc]; · iexact Rc
    isplitl [R1]; · iexact R1
    isplitl [R2]; · iexact R2
    iexact R3
  isplitl [X0 X1]
  · iapply (s2_join m c)
    isplitl [X0]; · iexact X0
    iexact X1
  isplitl [Ho]; · iexact Ho
  isplitl [Hx]; · iexact Hx
  isplitl [Hp]; · iexact Hp
  isplitl [Hq]; · iexact Hq
  iexact Hf

end Cert.KProof

end
-- ==== Proof.Out.lean ====
/-
# The output of one device, block by block
-/
module

public import Idealize.ShloMosaic.Lib.WritesUnit
public import proofs.«01_k».proof.Proof.Body

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
/-- The place of `y` within its row block. -/
def rowIn (y : S4096x512.Idx) : S1024x512.Idx := fun a => match a with
  | ⟨0, _⟩ => ⟨(y 0).val % 1024, Nat.mod_lt _ (by decide)⟩
  | ⟨1, _⟩ => y 1

/-- The row block of `y`. -/
def rowBlk (y : S4096x512.Idx) : Fin 4 := ⟨(y 0).val / 1024, by have h : (y 0).val < 4096 := (y 0).isLt; omega⟩

/-- The result of device `c`: row block `o` is the block device `o` computed for it. -/
def outAt (c : Dev nD) : Vec F S4096x512 .f32 := fun y => oblk m c (rowBlk y) (rowIn y)

/-- Writing row block `t` reads back the block there and what was before elsewhere. -/
theorem putRows_apply (t : Fin 4) (f : Vec F S4096x512 .f32) (w : FVec F S1024x512 .f32) (y : S4096x512.Idx) :
    putRows t f w y = if rowBlk y = t then w (rowIn y) else f y := by
  have e : putRows t f w = oM.view.read (Elt F) (oM.view.writes (Elt F) f [⟨oR t, w⟩]) := by
    unfold putRows; rw [View.writes_singleton]; exact (View.read_whole cc0_stg3_0 _).symm
  have h0 : (y 0).val = 1024 * ((y 0).val / 1024) + (y 0).val % 1024 := (Nat.div_add_mod _ _).symm
  have hm : (y 0).val % 1024 < 1024 := Nat.mod_lt _ (by decide)
  rw [e]
  by_cases h : rowBlk y = t
  · rw [if_pos h]
    have h' : (y 0).val / 1024 = t.val := congrArg Fin.val h
    have h1 : (y 0).val = 1024 * t.val + (y 0).val % 1024 := by omega
    exact View.read_writes_cons_rows_of_mem oM.view f (inb_o t) w [] y (rowIn y) rfl h1 rfl
  · rw [if_neg h]
    have h' : (y 0).val / 1024 ≠ t.val := fun h' => h (Fin.ext h')
    exact View.read_writes_cons_rows_of_not_mem (W := 1024) oM.view f (inb_o t) w [] y rfl rfl (by omega)

/-- Whatever the output staging buffer held, the four blocks cover it. -/
theorem outOf_eq (c : Dev nD) (f : Vec F S4096x512 .f32) : outOf m c f = outAt m c := by
  funext y
  unfold outOf outAt
  rw [putRows_apply, putRows_apply, putRows_apply, putRows_apply]
  have hc : rowBlk y = c ∨ rowBlk y = rot 1 c ∨ rowBlk y = rot 2 c ∨ rowBlk y = rot 3 c := by
    generalize rowBlk y = b
    revert b c; decide
  have n1 : rot 1 c ≠ rot 2 c := by clear hc; revert c; decide
  have n2 : rot 3 c ≠ rot 2 c := by clear hc n1; revert c; decide
  have n3 : rot 3 c ≠ rot 1 c := by clear hc n1 n2; revert c; decide
  rcases hc with h | h | h | h <;> rw [h]
  · rw [if_neg (rot_ne_2 c).symm, if_neg (rot_ne_1 c).symm, if_neg (rot_ne_3 c).symm, if_pos rfl]
  · rw [if_neg n1, if_pos rfl]
  · rw [if_pos rfl]
  · rw [if_neg n2, if_neg n3, if_pos rfl]

end Cert.KProof

end
-- ==== Proof.Data.lean ====
/-
# The body as the launch runs it
-/
module

public import proofs.«01_k».proof.Proof.Gen.KernelIdeal.Frame
public import proofs.«01_k».proof.Proof.Out

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The proof data: what the body starts from and ends in -/

/-- What a device starts its body from, besides its staging buffers. -/
def Φ₀ (c : Dev nD) : sProp 𝕄 :=
  iprop((∃ K, recs m K ∗ atAll c rnd0 ∗ toks c)
    ∗ (cred (tallyAt (kcell (c, 0)) () 3) ∗ cred (tallyAt (kcell (c, rK (rot 1 c))) () NB) ∗ cred (tallyAt (kcell (c, rK (rot 2 c))) () NB) ∗ cred (tallyAt (kcell (c, rK (rot 3 c))) () NB))
    ∗ levAts L lv ∗ w1Pts m c ∗ s0Any c ∗ s1Any c ∗ s2Any c)

/-- What it ends in: its ten counters at zero, `w` as launched, the scratch buffers at some contents. -/
def Φ₁ (c : Dev nD) : sProp 𝕄 :=
  iprop((bigSep Finset.univ fun k : Fin 10 => semVal (kcell (c, k)) 0) ∗ w1Pts m c ∗ s0Any c ∗ s1Any c ∗ s2Any c)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem iblk_0 (c : Dev nD) : iblk m c 0 t0_0 = (xrows m c : Vec F S1024x4096 .f32) :=
  (Memref.read_access_unit_zero (Elt F) main_arg0 (funext fun a => by revert a; decide) _ _)
theorem before_0 (c : Dev nD) (d) : (dats m ρ 0 c).before 0 t0_0 d = (xrows m c : Vec F S1024x4096 .f32) := by
  rw [← iblk_0 m c]
  exact ((dats m ρ 0 c).before_in_eq_fetched 0 rfl (fun _ => rfl) (fun _ _ _ => rfl) (fun t => rfl) t0_0 d).trans rfl

theorem iblk_1 (c : Dev nD) : iblk m c 1 t0_0 = (m ((c : Thread nD τ).loc main_arg2) : Vec F S1 .f32) :=
  (Memref.read_access_unit_zero (Elt F) main_arg2 (funext fun a => by revert a; decide) _ _)
theorem before_1 (c : Dev nD) (d) : (dats m ρ 0 c).before 1 t0_0 d = (m ((c : Thread nD τ).loc main_arg2) : Vec F S1 .f32) := by
  rw [← iblk_1 m c]
  exact ((dats m ρ 0 c).before_in_eq_fetched 1 rfl (fun _ => rfl) (fun _ _ _ => rfl) (fun t => rfl) t0_0 d).trans rfl

theorem iblk_2 (c : Dev nD) : iblk m c 2 t0_0 = (m ((c : Thread nD τ).loc main_arg3) : Vec F S1 .f32) :=
  (Memref.read_access_unit_zero (Elt F) main_arg3 (funext fun a => by revert a; decide) _ _)
theorem before_2 (c : Dev nD) (d) : (dats m ρ 0 c).before 2 t0_0 d = (m ((c : Thread nD τ).loc main_arg3) : Vec F S1 .f32) := by
  rw [← iblk_2 m c]
  exact ((dats m ρ 0 c).before_in_eq_fetched 2 rfl (fun _ => rfl) (fun _ _ _ => rfl) (fun t => rfl) t0_0 d).trans rfl

theorem owns_whole_ex (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer whole at the contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pre0 (c : Dev nD) : sProp 𝕄 :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def post0 (c : Dev nD) : sProp 𝕄 :=
  iprop(Φ₁ m c ∗ (dats m ρ 0 c).owesAt () t0_0.succ ∗ stg c cc0_stg0_0 (iblk m c 0 t0_0) ∗ stg c cc0_stg1_0 (iblk m c 1 t0_0)
    ∗ stg c cc0_stg2_0 (iblk m c 2 t0_0) ∗ stg c cc0_stg3_0 (outAt m c))

/-- The body takes what a device starts from to what it ends in. -/
theorem pre_post (c : Dev nD) : pre0 m ρ c ⊢ wpc c (cc0_body (F := F) xM (Memref.isWhole_whole _) wM (Memref.isWhole_whole _) pM (Memref.isWhole_whole _) qM (Memref.isWhole_whole _) oM (Memref.isWhole_whole _) sB (Memref.isWhole_whole _) rB (Memref.isWhole_whole _) wB (Memref.isWhole_whole _) cc0_scratch3 cc0_scratch4 cc0_scratch5) (fun _ => post0 m ρ c) := by
  unfold pre0 Φ₀
  iintro ⟨⟨⟨%K, #Hr, Hat, Htk⟩, ⟨Cb, C1, C2, C3⟩, #Hlev, Hw, H0, H1, H2⟩, Ho, ⟨%d0, %g0, %e0, Hx⟩, ⟨%d1, %g1, %e1, Hp⟩, ⟨%d2, %g2, %e2, Hq⟩, ⟨%d3, %g3, %e3, Hf⟩⟩
  rw [before_0] at e0
  rw [before_1] at e1
  rw [before_2] at e2
  subst e0 e1 e2
  iapply (body_run m K c g3)
  isplitr; · iexact Hr
  isplitr; · iexact Hlev
  isplitl [Hat]; · iexact Hat
  isplitl [Htk]; · iexact Htk
  isplitl [Cb]; · iexact Cb
  isplitl [C1]; · iexact C1
  isplitl [C2]; · iexact C2
  isplitl [C3]; · iexact C3
  isplitl [Hw]; · iexact Hw
  isplitl [H0]; · iexact H0
  isplitl [H1]; · iexact H1
  isplitl [H2]; · iexact H2
  isplitl [Ho]
  · unfold Dat.owesAt Pipeline.owesWithin ow
    icases Ho with ⟨%W, -, Ho⟩
    iexists W; iexact Ho
  isplitl [Hx]; · unfold xPts; iexact Hx
  isplitl [Hp]; · unfold pPts; iexact Hp
  isplitl [Hq]; · unfold qPts; iexact Hq
  isplitl [Hf]; · unfold oPts; iexact Hf
  iintro ⟨Hz, Hw, H0, H1, H2, Ho, Hx, Hp, Hq, Hf⟩
  unfold post0 Φ₁ xPts pPts qPts oPts
  isplitl [Hz Hw H0 H1 H2]
  · isplitl [Hz]; · iexact Hz
    isplitl [Hw]; · iexact Hw
    isplitl [H0]; · iexact H0
    isplitl [H1]; · iexact H1
    iexact H2
  isplitl [Ho]
  · unfold Dat.owesAt Pipeline.owesWithin ow
    icases Ho with ⟨%W, Ho⟩
    iexists W
    isplitr; · ipureintro; exact fun _ _ => Or.inl trivial
    iexact Ho
  rw [iblk_0, iblk_1, iblk_2, ← outOf_eq m c g3]
  isplitl [Hx]; · iexists _; isplitr; · (ipureintro; rfl)
                  iexact Hx
  isplitl [Hp]; · iexists _; isplitr; · (ipureintro; rfl)
                  iexact Hp
  isplitl [Hq]; · iexists _; isplitr; · (ipureintro; rfl)
                  iexact Hq
  iexists _; isplitr; · (ipureintro; rfl)
  iexact Hf

/-- The obligation the launch asks of the body on device `c`. -/
theorem body_obligation (c : Dev nD) : BodyObligation (dats (F := F) m ρ 0 c) (defs₀ (F := F)) 𝒱₀ () Set.univ := fun t => by
  rw [fin_N0 t, bigSep_W0, bigSep_W0]
  simp only [owns_whole_ex]
  exact pre_post m ρ c

end Cert.KProof

end
-- ==== Proof.Run.lean ====
/-
# The launch on four devices, and the run
-/
module

public import Idealize.ShloMosaic.Lib.Pipeline.CollectiveSegs
public import proofs.«01_k».proof.Proof.Data

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The semaphores -/

/-- The kernel's own nine semaphores: every cell but the barrier. -/
def osem (k : Fin 9) : SemLoc sig := csem k.succ
theorem ownSemFacts : Pipeline.OwnSemFacts cfg0.spec osem := by decide

theorem share_eq (c : Dev nD) (w : Fin cfg0.W) : (dats m ρ 0 c).share w = fullShare := by unfold Dat.share; split <;> rfl

theorem fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem own_list (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
        ∗ semVal (kcell (c, 6)) 0 ∗ semVal (kcell (c, 7)) 0 ∗ semVal (kcell (c, 8)) 0 ∗ semVal (kcell (c, 9)) 0) := by
  rw [Pipeline.ownSems0_eq_of_list c osem [0, 1, 2, 3, 4, 5, 6, 7, 8] (by decide) (by decide)]; rfl
theorem unscoped_one (c : Dev nD) : (unscopedSems0 c : sProp 𝕄) = semVal (kcell (c, 0)) 0 := by
  unfold unscopedSems0; rw [bigSep_eq_bigSepL_of_eq [csem 0] (by decide) (by decide)]; rfl
/-- A device's own semaphores and the barrier are its ten cells. -/
theorem sems_eq (c : Dev nD) : iprop((unscopedSems0 c : sProp 𝕄) ∗ Pipeline.ownSems0 (Ix := Unit) (Name := ℕ) (U := UU) (Lvl := ℕ) (Val := Elt F) (τ := τ) osem c)
    = (bigSep Finset.univ fun k : Fin 10 => semVal (kcell (c, k)) 0 : sProp 𝕄) := by
  rw [own_list, unscoped_one, fin10]

/-! ## The exchange's ghost state, dealt to the devices -/

theorem tkOf_injective : Function.Injective (tkOf : Dev nD × Fin 13 → GSem nD τ sig × ℕ × Dev nD) := by
  let cl : Dev nD × Fin 13 → (Dev nD × Fin 10) × ℕ × Dev nD := fun cj => match cj.2 with
    | 0 => ((rot 1 cj.1, 0), 0, cj.1) | 1 => ((rot 2 cj.1, 0), 0, cj.1) | 2 => ((rot 3 cj.1, 0), 0, cj.1)
    | 3 => ((rot 1 cj.1, rK cj.1), 0, cj.1) | 4 => ((rot 2 cj.1, rK cj.1), 0, cj.1) | 5 => ((rot 3 cj.1, rK cj.1), 0, cj.1)
    | 6 => ((cj.1, sK 0), 0, cj.1) | 7 => ((cj.1, sK 1), 0, cj.1) | 8 => ((cj.1, sK 2), 0, cj.1)
    | 9 => ((cj.1, wK 0), 0, cj.1) | 10 => ((cj.1, wK 0), 1, cj.1) | 11 => ((cj.1, wK 1), 0, cj.1) | 12 => ((cj.1, wK 1), 1, cj.1)
  have hcl : Function.Injective cl := by decide
  have e : ∀ cj, tkOf cj = (kcell (cl cj).1, (cl cj).2.1, (cl cj).2.2) := by
    rintro ⟨c, j⟩; fin_cases j <;> rfl
  intro a b h
  rw [e, e] at h
  have h1 := kcell_injective (congrArg Prod.fst h)
  have h2 : (cl a).2 = (cl b).2 := Prod.ext (congrArg (fun x => x.2.1) h) (congrArg (fun x => x.2.2) h)
  exact hcl (Prod.ext h1 h2)

def allCells : Finset (GSem nD τ sig) := Finset.univ.map ⟨kcell, kcell_injective⟩
def allToks : Finset (GSem nD τ sig × ℕ × Dev nD) := Finset.univ.map ⟨tkOf, tkOf_injective⟩

def u₀ : UU := (initOf (Pipeline.cells cfgs cellOf_inj) (Pipeline.launchToks cfgs cellOf_inj), initOf allCells allToks)

/-- What the launch element gives device `c`: its cells' states, its positions on them, the tokens it pays with. -/
def G (c : Dev nD) : sProp 𝕄 :=
  iprop((bigSep Finset.univ fun k : Fin 10 => roundState EX (Xs m) (kcell (c, k)) 0)
    ∗ (bigSep Finset.univ fun k : Fin 10 => reached EX (kcell (c, k)) 0) ∗ atAll c rnd0 ∗ toks c)

/-- And what it holds once the cells are open. -/
def G' (c : Dev nD) : sProp 𝕄 := iprop(∃ K, recs m K ∗ atAll c rnd0 ∗ toks c)

theorem by_device (Φ : GSem nD τ sig → sProp 𝕄) :
    bigSep allCells Φ = bigSep Finset.univ fun c : Dev nD => bigSep Finset.univ fun k : Fin 10 => Φ (kcell (c, k)) := by
  unfold allCells; rw [bigSep_map, bigSep_univ_prod]; rfl
theorem toks_by_device : bigSep allToks (fun x => (dutyTok EX x.1 x.2.1 x.2.2 : sProp 𝕄)) = bigSep Finset.univ fun c : Dev nD => toks c := by
  unfold allToks toks; rw [bigSep_map, bigSep_univ_prod]; rfl

theorem fund_all : BI.own (EX (initOf allCells allToks)) ⊢ (|==> bigSep Finset.univ (G m) : sProp 𝕄) := by
  iintro HX
  imod (Rounds.fund EX (Xs m) allCells allToks) $$ HX with ⟨Hst, Hr, Hat, Htok⟩
  imodintro
  ihave Hst := (Entails.of_eq (by_device fun g => roundState EX (Xs m) g 0)) $$ Hst
  ihave Hat := (Entails.of_eq (by_device fun g => atPos EX g 0 ∅ 0)) $$ Hat
  ihave Hr := (Entails.of_eq (by_device fun g => reached EX g 0)) $$ Hr
  ihave Htok := (Entails.of_eq toks_by_device) $$ Htok
  unfold G atAll; simp only [bigSep_sep']
  isplitl [Hst]; · iexact Hst
  isplitl [Hr]; · iexact Hr
  isplitl [Hat]; · iexact Hat
  iexact Htok

/-- Every cell opens at zero: its invariant is allocated from its counter and its state. -/
theorem open_cells (c : Dev nD) :
    iprop((bigSep Finset.univ fun k : Fin 10 => semVal (kcell (c, k)) 0) ∗ bigSep Finset.univ fun k : Fin 10 => roundState EX (Xs m) (kcell (c, k)) 0)
      ⊢ (|={Set.univ}=> bigSep Finset.univ fun k : Fin 10 => iprop(∃ κ : ℕ, cellInv EX (Xs m) κ (kcell (c, k))) : sProp 𝕄) := by
  rw [← bigSep_sep']
  exact (bigSep_mono fun k _ => (Rounds.body_intro EX (Xs m) (kcell (c, k))).trans inv_alloc).trans (bigSep_fupd _ _)

theorem dev_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 10 => iprop((∃ κ : ℕ, cellInv EX (Xs m) κ (kcell (c, k))) ∗ reached EX (kcell (c, k)) 0))
          ∗ (atAll c rnd0 ∗ toks c)) := by
  unfold G
  iintro ⟨Hos, Hus, Hst, Hr, Hat, Htok⟩
  ihave Hv := (Entails.of_eq (sems_eq (F := F) c)) $$ [Hos Hus]
  · isplitl [Hus] <;> iassumption
  imod (open_cells m c) $$ [Hv Hst] with Hinv
  · isplitl [Hv] <;> iassumption
  imodintro
  rw [bigSep_sep']
  isplitl [Hinv Hr]
  · isplitl [Hinv] <;> iassumption
  isplitl [Hat] <;> iassumption

theorem one_share (K : Dev nD × Fin 10 → ℕ) (c : Dev nD) : (iprop(recs m K ∗ atAll c rnd0 ∗ toks c) : sProp 𝕄) ⊢ G' m c := by
  unfold G'
  iintro H
  iexists K; iexact H

theorem share_recs (K : Dev nD × Fin 10 → ℕ) :
    iprop(recs m K ∗ bigSep Finset.univ fun c : Dev nD => iprop(atAll c rnd0 ∗ toks c)) ⊢ (bigSep Finset.univ (G' m) : sProp 𝕄) := by
  refine (sep_mono_left (BI.bigSep_of_persistent (Finset.univ : Finset (Dev nD)) (recs m K))).trans ?_
  rw [← bigSep_sep']
  exact bigSep_mono fun c _ => one_share m K c

theorem name_cells :
    (bigSep Finset.univ fun c : Dev nD => bigSep Finset.univ fun k : Fin 10 => iprop((∃ κ : ℕ, cellInv EX (Xs m) κ (kcell (c, k))) ∗ reached EX (kcell (c, k)) 0) : sProp 𝕄)
      ⊢ iprop(∃ K, recs m K) := by
  rw [← bigSep_univ_prod (fun ck : Dev nD × Fin 10 => iprop((∃ κ : ℕ, cellInv EX (Xs m) κ (kcell ck)) ∗ reached EX (kcell ck) 0)), bigSep_sep']
  iintro ⟨HI, HR⟩
  ihave HK := (BI.bigSep_exists_pi Finset.univ (fun (ck : Dev nD × Fin 10) (κ : ℕ) => (cellInv EX (Xs m) κ (kcell ck) : sProp 𝕄))) $$ HI
  icases HK with ⟨%K, HI⟩
  iexists K
  unfold recs; rw [bigSep_sep']
  isplitl [HI] <;> iassumption

theorem regroup :
    (bigSep Finset.univ fun c : Dev nD => iprop((bigSep Finset.univ fun k : Fin 10 => iprop((∃ κ : ℕ, cellInv EX (Xs m) κ (kcell (c, k))) ∗ reached EX (kcell (c, k)) 0))
          ∗ (atAll c rnd0 ∗ toks c)) : sProp 𝕄) ⊢ bigSep Finset.univ (G' m) := by
  rw [bigSep_sep']
  iintro ⟨HI, HL⟩
  ihave HK := (name_cells m) $$ HI
  icases HK with ⟨%K, HK⟩
  iapply (share_recs m K)
  isplitl [HK] <;> iassumption

/-- All devices' semaphores and states together become the shared record, with each device's positions and tokens. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => dev_alloc m c).trans (bigSep_fupd _ _)).trans (BI.fupd_mono (regroup m))

/-! ## The credit a device starts with -/

/-- How many barrier units, and how many block credits, device `d` owes a cell. -/
def cntB (d : Dev nD) (ck : Dev nD × Fin 10) : ℕ :=
  (if ck = (rot 1 d, 0) then 1 else 0) + (if ck = (rot 2 d, 0) then 1 else 0) + (if ck = (rot 3 d, 0) then 1 else 0)
def cntR (d : Dev nD) (ck : Dev nD × Fin 10) : ℕ :=
  (if ck = (rot 1 d, rK d) then 1 else 0) + (if ck = (rot 2 d, rK d) then 1 else 0) + (if ck = (rot 3 d, rK d) then 1 else 0)

theorem tally_k (ck ck' : Dev nD × Fin 10) (a : ℕ) :
    (tallyAt (kcell ck) () a : CellTallies nD τ sig Unit) (kcell ck') () = a * (if ck' = ck then 1 else 0) := by
  rw [tallyAt_apply]
  by_cases h : ck' = ck
  · rw [if_pos h, if_pos ⟨congrArg kcell h, rfl⟩, Nat.mul_one]
  · rw [if_neg h, if_neg fun h' => h (kcell_injective h'.1), Nat.mul_zero]

theorem owed_k (d : Dev nD) (ck : Dev nD × Fin 10) : O₀ d (kcell ck) () = NB * cntR d ck + cntB d ck := by
  unfold O₀ O₁ cntR cntB
  simp only [Pi.add_apply, Finsupp.add_apply]
  rw [tally_k (rot 2 d, rK d), tally_k (rot 3 d, rK d), tally_k (rot 1 d, rK d), tally_k (rot 3 d, 0), tally_k (rot 2 d, 0), tally_k (rot 1 d, 0)]
  rw [Nat.mul_add, Nat.mul_add]; omega

theorem launch_k (ck : Dev nD × Fin 10) (n : ℕ) (h : NB * (∑ d : Dev nD, cntR d ck) + ∑ d : Dev nD, cntB d ck = n) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Pipeline.launchCredit_owing, Finsupp.single_eq_same, Finset.sum_congr rfl fun d _ => owed_k d ck, Finset.sum_add_distrib, ← Finset.mul_sum, h]

theorem launch_bar (c : Dev nD) : tallyOn (kcell (c, 0)) (launchCredit (Pipeline.owing O₀) 0 (kcell (c, 0))) = (tallyAt (kcell (c, 0)) () 3 : CellTallies nD τ sig Unit) := by
  refine launch_k (c, 0) 3 ?_
  rw [show ∑ d : Dev nD, cntR d (c, 0) = 0 by revert c; decide, show ∑ d : Dev nD, cntB d (c, 0) = 3 by revert c; decide, Nat.mul_zero]
theorem launch_recv (c o : Dev nD) (ho : o ≠ c) :
    tallyOn (kcell (c, rK o)) (launchCredit (Pipeline.owing O₀) 0 (kcell (c, rK o))) = (tallyAt (kcell (c, rK o)) () NB : CellTallies nD τ sig Unit) := by
  refine launch_k (c, rK o) NB ?_
  rw [show ∑ d : Dev nD, cntR d (c, rK o) = 1 by revert c o; decide, show ∑ d : Dev nD, cntB d (c, rK o) = 0 by revert c o; decide, Nat.mul_one]
  rfl

/-- The launch's credit holds what the body starts from: three barrier units and one block from each other device. -/
theorem creds (c : Dev nD) :
    (Pipeline.launchCred O₀ c : sProp 𝕄) ⊢ iprop(cred (tallyAt (kcell (c, 0)) () 3) ∗ cred (tallyAt (kcell (c, rK (rot 1 c))) () NB)
      ∗ cred (tallyAt (kcell (c, rK (rot 2 c))) () NB) ∗ cred (tallyAt (kcell (c, rK (rot 3 c))) () NB)) := by
  unfold Pipeline.launchCred
  refine BI.Entails.trans (BI.bigSep_subset (M := 𝕄) (Finset.subset_univ ({csem 0, csem (rK (rot 1 c)), csem (rK (rot 2 c)), csem (rK (rot 3 c))} : Finset (SemLoc sig)))) ?_
  rw [bigSep_eq_bigSepL_of_eq [csem 0, csem (rK (rot 1 c)), csem (rK (rot 2 c)), csem (rK (rot 3 c))] (by revert c; decide) (by revert c; decide)]
  rw [← launch_bar, ← launch_recv c _ (rot_ne_1 c), ← launch_recv c _ (rot_ne_2 c), ← launch_recv c _ (rot_ne_3 c)]
  exact BI.Entails.refl _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((G' m c ∗ Pipeline.launchCred O₀ c ∗ levAts L lv ∗ w1Pts m c) ∗ emp) := by
  rw [Pipeline.unscopedRestP_none, unscopedRest0_eq]
  iintro ⟨Hw, Hlev, Hcr, -, HG⟩
  imodintro
  isplitl
  · isplitl [HG]; · iexact HG
    isplitl [Hcr]; · iexact Hcr
    isplitl [Hlev]; · iexact Hlev
    unfold w1Pts; iexact Hw
  · iempintro

theorem enter (c : Dev nD) :
    iprop((G' m c ∗ Pipeline.launchCred O₀ c ∗ levAts L lv ∗ w1Pts m c)
        ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ G' s0Any s1Any s2Any
  iintro ⟨⟨HG, Hcr, Hlev, Hw⟩, -, H0, H1, H2⟩
  isplitl [HG]; · iexact HG
  isplitl [Hcr]; · iapply (creds c); iexact Hcr
  isplitl [Hlev]; · iexact Hlev
  isplitl [Hw]; · iexact Hw
  isplitl [H0]; · iexact H0
  isplitl [H1]; · iexact H1
  iexact H2

theorem leave (c : Dev nD) :
    (dats m ρ 0 c).Φ (Fin.last cfg0.N) ⊢ iprop((unscopedSems0 c ∗ w1Pts m c) ∗ Pipeline.ownSems0 osem c ∗ Pipeline.scopedRest cfg0.spec c) := by
  rw [show (dats m ρ 0 c).Φ (Fin.last cfg0.N) = Φ₁ m c from rfl, scopedRest0_eq]
  unfold Φ₁ s0Any s1Any s2Any
  iintro ⟨Hz, Hw, H0, H1, H2⟩
  ihave Hz := (Entails.of_eq (sems_eq (F := F) c).symm) $$ Hz
  icases Hz with ⟨Hu, Ho⟩
  isplitl [Hu Hw]
  · isplitl [Hu] <;> iassumption
  isplitl [Ho]; · iexact Ho
  isplitl [H0]; · iexact H0
  isplitl [H1]; · iexact H1
  iexact H2

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by fin_cases w <;> fin_cases s <;> rfl) _ (by
      rcases t with ⟨_ | _, ht⟩
      · exact above_O₀ c
      · exact above_zero 0)

/-- What is read of device `c` at the end: its unscoped counters zero and its `w` as launched. -/
theorem read_end (c : Dev nD) (s' : Phys nD τ sig (Elt F)) :
    iprop((unscopedSems0 c ∗ w1Pts m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  iintro ⟨⟨Hu, Hw⟩, -, HSI⟩
  unfold w1Pts
  icombine HSI Hw gives %hw
  imod (Pipeline.unscopedSems0_read (X := unscopedSems0 c) (c := c) fupd_intro s') $$ [Hu HSI] with ⟨%hz, HSI⟩
  · isplitl [Hu] <;> iassumption
  imodintro
  isplitr
  · ipureintro; exact ⟨hz, funext fun i => hw i (Finset.mem_univ i)⟩
  iexact HSI

/-! ## The run -/

def finalA (c : Dev nD) (w : Fin cfg0.W) : Buf (Elt F) ((cfg0.win w).arr.view.loc (c : Thread nD τ)) := (dats m ρ 0 c).arrAt w cfg0.N

/-- The final states: the windows' arrays, `w`, and every counter. -/
def Fin₁ (s : MemSt nD τ sig (Elt F)) : Prop :=
  (∀ c : Dev nD, (∀ w : Fin cfg0.W, s.mem ((cfg0.win w).arr.view.loc (c : Thread nD τ)) = finalA m ρ c w)
    ∧ s.mem ((c : Thread nD τ).loc main_arg1) = m ((c : Thread nD τ).loc main_arg1)) ∧ s.sem = fun _ => 0

/-- On four devices, for any float values and from any memory with zero counters, the program ends, in a state as described. -/
theorem run_dats : θ_run defs (onTc (τ := τ) (main (F := F))) (s₀ m ρ) (fun r => Fin₁ m ρ r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := fun c => iprop(G' m c ∗ Pipeline.launchCred O₀ c ∗ levAts L lv ∗ w1Pts m c)) (Y := fun c => iprop(unscopedSems0 c ∗ w1Pts m c)) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨(h c).1, (h c).2.2.2⟩, sem_eq_zero hs fun c => (h c).2.2.1⟩)

theorem finalA_in (c : Dev nD) (w : Fin cfg0.W) (h : (cfg0.win w).isOut = false) : finalA m ρ c w = m ((cfg0.win w).arr.view.loc (c : Thread nD τ)) :=
  (dats (F := F) m ρ 0 c).arrAt_in w h _

/-- The result array ends at the four blocks. -/
theorem finalA_out (c : Dev nD) : finalA m ρ c (3 : Fin 4) = (outAt m c : Vec F S4096x512 .f32) := by
  have h : (win0_3.blk t0_0).view.read (Elt F) (finalA m ρ c (3 : Fin 4)) = outAt m c := by
    unfold finalA
    rw [show cfg0.N = (t0_0 : Fin cfg0.N).val + 1 from rfl, (dats m ρ 0 c).arrAt_succ (3 : Fin 4) t0_0]
    rw [show (cfg0.win (3 : Fin 4)).flush t0_0 = true from by decide, if_pos rfl]
    exact View.read_write_univ _ _
  exact (Memref.read_access_unit_zero (Elt F) main_v1 (funext fun a => by revert a; decide) _ _).symm.trans h

/-- The whole run: arguments unchanged, the result at the four blocks, every counter zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v1) = (outAt m c : Vec F S4096x512 .f32)) ∧ r.2.sem = fun _ => 0) :=
  (θ_run defs _ _).mono (fun _ h => ⟨fun c => ⟨((h.1 c).1 0).trans (finalA_in m ρ c 0 rfl), (h.1 c).2,
    ((h.1 c).1 1).trans (finalA_in m ρ c 1 rfl), ((h.1 c).1 2).trans (finalA_in m ρ c 2 rfl), ((h.1 c).1 3).trans (finalA_out m ρ c)⟩, h.2⟩) (run_dats m ρ)

end Cert.KProof

end
-- ==== Proof.Values.lean ====
/-
# The values over the extended reals

What one entry of the kernel's output is, what one entry of each reference is, and that they are the same.
-/
module

public import Idealize.ShloMosaic.Lib.MatmulPlain
public import Idealize.ShloMosaic.Lib.KernelVsHost
public import Idealize.ShloMosaic.Lib.Layout
public import Idealize.ShloMosaic.PureOps.Ideal
public import Idealize.ShloMosaic.PureOps.IdealRules
public import proofs.«01_k».proof.Proof.Out

@[expose] public section

noncomputable section

namespace Cert.KProof

open Cert.KernelIdeal Cert.KernelIdeal.Gen

open Idealize.ShloMosaic
open Idealize.ShloMosaic.TcCoe
open Idealize.ShloMosaic.ValueIdx
open Idealize.SL.Sem
open scoped BigOperators

variable (m : (ℓ : Loc nD τ sig) → Buf (Elt Ideal) ℓ)

/-! ## The function -/

/-- `y` times its logistic. -/
def silu (y : EReal) : EReal := y * Ideal.logistic y

/-- One entry of a scaled product: the sum over `k` of `x k * w k`, times `s`. -/
def dotScaled (x w : Fin 4096 → EReal) (s : EReal) : EReal := (∑ k : Fin 4096, x k * w k) * s

/-- The exponential is nowhere negative. -/
theorem exp_nonneg (x : EReal) : 0 ≤ Ideal.exp x := by
  induction x with
  | bot => simp
  | top => simp
  | coe r => rw [Ideal.exp_coe]; exact_mod_cast (Real.exp_pos r).le

/-- The denominator `1 + e^x` is nowhere zero. -/
theorem one_add_exp_ne_zero (x : EReal) : 1 + Ideal.exp x ≠ 0 := by
  have h : (0 : EReal) < 1 + Ideal.exp x := lt_of_lt_of_le zero_lt_one (le_add_of_nonneg_right (exp_nonneg x))
  exact ne_of_gt h

/-- `y` times its logistic is `y / (1 + e^(-y))`, at every extended real. -/
theorem silu_eq_div (y : EReal) : silu y = Ideal.div y (1 + Ideal.exp (-y)) := by
  unfold silu Ideal.logistic Ideal.div
  rw [if_neg (one_add_exp_ne_zero _), if_neg (one_add_exp_ne_zero _), one_mul]

/-! ## The kernel -/

/-- One entry of a block the kernel computes. -/
theorem fblk_apply (s : EReal) (x : FVec Ideal S1024x4096 .fp8e5m2) (w : Vec Ideal S4096x512 .f32) (r : Fin 1024) (j : Fin 512) :
    fblk (F := Ideal) s x w (ix2 r j) = silu (dotScaled (fun k => x (ix2 r k)) (fun k => w (ix2 k j)) s) := by
  have e : matmul (F := Ideal) dot_S1024x4096_S4096x512_S1024x512_1_0_0_1_n_n none x (truncf .fp8e5m2 w bitsLt_fp8e5m2_f32)
      (constant S1024x512 .f32 0x00000000#32) (ix2 r j) = ∑ k : Fin 4096, x (ix2 r k) * w (ix2 k j) := by
    refine (Ideal.matmul_plain_apply (M := 1024) (K := 4096) (N := 512) none x (truncf .fp8e5m2 w bitsLt_fp8e5m2_f32)
      (constant S1024x512 .f32 0x00000000#32) r j).trans ?_
    show Ideal.ofBits .f32 0x00000000#32 + _ = _
    rw [Ideal.ofBits_zero_f32, zero_add]
    rfl
  show (matmul (F := Ideal) dot_S1024x4096_S4096x512_S1024x512_1_0_0_1_n_n none x (truncf .fp8e5m2 w bitsLt_fp8e5m2_f32)
      (constant S1024x512 .f32 0x00000000#32) (ix2 r j) * s)
    * Ideal.logistic (matmul (F := Ideal) dot_S1024x4096_S4096x512_S1024x512_1_0_0_1_n_n none x (truncf .fp8e5m2 w bitsLt_fp8e5m2_f32)
      (constant S1024x512 .f32 0x00000000#32) (ix2 r j) * s) = _
  rw [e]
  rfl

/-- The column block `t` of the weights, entry by entry. -/
theorem wcols_apply (c : Dev nD) (t : Fin 4) (k : Fin 4096) (j : Fin 512) :
    wcols m c t (ix2 k j) = (m ((c : Thread nD τ).loc main_arg1) : S4096x2048.Idx → EReal) (ix2 k ⟨512 * t.val + j.val, by omega⟩) := by
  refine congrArg (m ((c : Thread nD τ).loc main_arg1) : S4096x2048.Idx → EReal) (a₁ := (cR t).emb (ix2 k j)) ?_
  funext a; apply Fin.ext
  match a with
  | ⟨0, _⟩ => show 0 + 1 * k.val = k.val; omega
  | ⟨1, _⟩ => show 512 * t.val + 1 * j.val = 512 * t.val + j.val; omega

/-- One entry of a row block of the output, whether kept or received. -/
theorem oblk_apply (c o : Dev nD) (r : Fin 1024) (j : Fin 512) :
    oblk m c o (ix2 r j) = silu (dotScaled (fun k => (m ((o : Thread nD τ).loc main_arg0) : S1024x4096.Idx → EReal) (ix2 r k))
      (fun k => (m ((o : Thread nD τ).loc main_arg1) : S4096x2048.Idx → EReal) (ix2 k ⟨512 * c.val + j.val, by have := c.isLt; change c.val < 4 at this; omega⟩))
      (scl m o)) := by
  have e : oblk m c o = fblk (scl m o) (k0_pay2 (xrows m o)) (wcols m o c) := by
    unfold oblk
    by_cases h : o = c
    · subst h; rw [if_pos rfl]; rfl
    · rw [if_neg h]; rfl
  have e2 : k0_pay2 (xrows m o) = (m ((o : Thread nD τ).loc main_arg0) : S1024x4096.Idx → EReal) := by
    funext i
    show shapeCast S1024x4096 (xrows m o) shapeCasts_S1024x4096_S1024x4096 i = _
    rw [shapeCast_self]
    rfl
  rw [e, fblk_apply, e2]
  simp only [wcols_apply]

end Cert.KProof

end
-- ==== Proof.References.lean ====
/-
# What the references and the precondition say, entry by entry
-/
module

public import Idealize.ShloMosaic.Lib.IdealHost
public import proofs.«01_k».proof.Pre_within_clip_KernelIdeal
public import proofs.«01_k».proof.Pre_within_clip_ReferenceIdeal
public import proofs.«01_k».proof.Proof.Gen.ReferenceIdeal.Run
public import proofs.«01_k».proof.Proof.Gen.SiluIdeal.Run
public import proofs.«01_k».proof.Proof.Values

@[expose] public section

noncomputable section

namespace Cert.KProof

open Idealize.ShloMosaic
open Idealize.ShloMosaic.TcCoe
open Idealize.ShloMosaic.ValueIdx
open Idealize.SL.Sem
open scoped BigOperators

/-! ## The scaled product, as the host writes it -/

/-- A one-element array has one index. -/
theorem idx_eq_ix1 (i : (⟨1, ![1]⟩ : Shape).Idx) : i = ix1 := by
  funext a
  apply Fin.ext
  have h : (i a).val < 1 := by
    have := (i a).isLt
    revert this
    match a with
    | ⟨0, _⟩ => exact id
  show (i a).val = 0
  omega

/-- One entry of the host's product of `X` and `W`, scaled by the product of the two scales. -/
theorem host_dot_apply {M : ℕ} (X : FVec Ideal ⟨2, ![M, 4096]⟩ .f32) (W : FVec Ideal ⟨2, ![4096, 2048]⟩ .f32)
    (a b : FVec Ideal ⟨1, ![1]⟩ .f32)
    (h1 : (⟨1, ![1]⟩ : Shape).BroadcastsInDim ⟨2, ![1, 1]⟩ (![1] : Fin 1 → Fin 2))
    (h2 : (⟨2, ![1, 1]⟩ : Shape).BroadcastsInDim ⟨2, ![M, 2048]⟩ (![0, 1] : Fin 2 → Fin 2)) (r : Fin M) (j : Fin 2048) :
    mulf (Host.dotGeneral (DotDims.plain M 4096 2048) none X W)
      (broadcastInDim ⟨2, ![M, 2048]⟩ ![0, 1] h2 (broadcastInDim ⟨2, ![1, 1]⟩ ![1] h1 (mulf a b))) (ix2 r j)
    = dotScaled (fun k => X (ix2 r k)) (fun k => W (ix2 k j)) ((a : (⟨1, ![1]⟩ : Shape).Idx → EReal) ix1 * (b : (⟨1, ![1]⟩ : Shape).Idx → EReal) ix1) := by
  have e : Host.dotGeneral (DotDims.plain M 4096 2048) none X W (ix2 r j) = (∑ k : Fin 4096, X (ix2 r k) * W (ix2 k j) : EReal) := by
    rw [← matmul_zero_eq_dotGeneral]
    refine (Ideal.matmul_plain_apply (M := M) (K := 4096) (N := 2048) none X W _ r j).trans ?_
    show Ideal.ofBits .f32 0x00000000#32 + _ = _
    rw [Ideal.ofBits_zero_f32, zero_add]
  show (Host.dotGeneral (DotDims.plain M 4096 2048) none X W (ix2 r j) : EReal)
    * ((a : (⟨1, ![1]⟩ : Shape).Idx → EReal) _ * (b : (⟨1, ![1]⟩ : Shape).Idx → EReal) _) = _
  rw [e, idx_eq_ix1 (fun _ => _)]
  rfl

/-! ## The two references -/

/-- The scaled product of the whole arrays, over the extended reals. -/
def prod (X : FVec Ideal ⟨2, ![4096, 4096]⟩ .f32) (W : FVec Ideal ⟨2, ![4096, 2048]⟩ .f32) (a b : FVec Ideal ⟨1, ![1]⟩ .f32)
    (r : Fin 4096) (j : Fin 2048) : EReal :=
  dotScaled (fun k => X (ix2 r k)) (fun k => W (ix2 k j)) ((a : (⟨1, ![1]⟩ : Shape).Idx → EReal) ix1 * (b : (⟨1, ![1]⟩ : Shape).Idx → EReal) ix1)

/-- The scaled product as both references write it. -/
def hostProd (X : FVec Ideal ⟨2, ![4096, 4096]⟩ .f32) (W : FVec Ideal ⟨2, ![4096, 2048]⟩ .f32) (a b : FVec Ideal ⟨1, ![1]⟩ .f32) : FVec Ideal ⟨2, ![4096, 2048]⟩ .f32 :=
  mulf (Host.dotGeneral (DotDims.plain 4096 4096 2048) none X W)
    (broadcastInDim ⟨2, ![4096, 2048]⟩ ![0, 1] Cert.ReferenceIdeal.Gen.bcast_S1x1_S4096x2048_0_1
      (broadcastInDim ⟨2, ![1, 1]⟩ ![1] Cert.ReferenceIdeal.Gen.bcast_S1_S1x1_1 (mulf a b)))

/-- Its entries. -/
theorem hostProd_apply (X : FVec Ideal ⟨2, ![4096, 4096]⟩ .f32) (W : FVec Ideal ⟨2, ![4096, 2048]⟩ .f32) (a b : FVec Ideal ⟨1, ![1]⟩ .f32)
    (r : Fin 4096) (j : Fin 2048) : hostProd X W a b (ix2 r j) = prod X W a b r j :=
  host_dot_apply (M := 4096) X W a b _ _ r j

section Silu
open Cert.SiluIdeal Cert.SiluIdeal.Gen

/-- The result array of the reference without the clip. -/
def siluTerm (X : FVec Ideal S4096x4096 .f32) (W : FVec Ideal S4096x2048 .f32) (a b : FVec Ideal S1 .f32) : FVec Ideal S4096x2048 .f32 :=
  Host.divf (mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b)))) (addf (broadcastInDim S4096x2048 ![] bcast_S_S4096x2048 (constant S_ .f32 0x3F800000#32)) (Host.exp (Host.negf (mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b)))))))

/-- One of its entries is the silu of the scaled product. -/
theorem siluTerm_apply (X : FVec Ideal S4096x4096 .f32) (W : FVec Ideal S4096x2048 .f32) (a b : FVec Ideal S1 .f32) (r : Fin 4096) (j : Fin 2048) :
    siluTerm X W a b (ix2 r j) = silu (prod X W a b r j) := by
  rw [silu_eq_div]
  show Ideal.div (hostProd X W a b (ix2 r j)) (Ideal.ofBits .f32 0x3F800000#32 + Ideal.exp (-hostProd X W a b (ix2 r j))) = _
  rw [hostProd_apply, Ideal.ofBits_one_f32]

end Silu

section Clipped
open Cert.ReferenceIdeal Cert.ReferenceIdeal.Gen

/-- The result array of the reference with the clip. -/
def clipTerm (X : FVec Ideal S4096x4096 .f32) (W : FVec Ideal S4096x2048 .f32) (a b : FVec Ideal S1 .f32) : FVec Ideal S4096x2048 .f32 :=
  Host.divf (mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b)))) (addf (broadcastInDim S4096x2048 ![] bcast_S_S4096x2048 (constant S_ .f32 0x3F800000#32)) (Host.exp (Host.negf (minimumf (broadcastInDim S4096x2048 ![] bcast_S_S4096x2048 (id (constant S_ .f32 0x42700000#32))) (maximumf (broadcastInDim S4096x2048 ![] bcast_S_S4096x2048 (id (constant S_ .f32 0xC2700000#32))) (mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b)))))))))

/-- Where the scaled product lies between the bounds of the clip, an entry is its silu. -/
theorem clipTerm_apply (X : FVec Ideal S4096x4096 .f32) (W : FVec Ideal S4096x2048 .f32) (a b : FVec Ideal S1 .f32) (r : Fin 4096) (j : Fin 2048)
    (lo : Ideal.ofBits .f32 0xC2700000#32 ≤ prod X W a b r j) (hi : prod X W a b r j ≤ Ideal.ofBits .f32 0x42700000#32) :
    clipTerm X W a b (ix2 r j) = silu (prod X W a b r j) := by
  rw [silu_eq_div]
  show Ideal.div (hostProd X W a b (ix2 r j)) (Ideal.ofBits .f32 0x3F800000#32
    + Ideal.exp (-(min (Ideal.ofBits .f32 0x42700000#32) (max (Ideal.ofBits .f32 0xC2700000#32) (hostProd X W a b (ix2 r j)))))) = _
  rw [hostProd_apply, Ideal.ofBits_one_f32, max_eq_right lo, min_eq_right hi]

end Clipped

/-! ## The precondition -/

set_option backward.proofsInPublic true in
/-- The facts the precondition states of one device's blocks. -/
theorem clip_facts : Cert.Pre_within_clip_KernelIdeal.Facts where
  bcast_S1_S1x1_1 := by decide
  bcast_S1x1_S1024x2048_0_1 := by decide
  bcast_S_S1024x2048 := by decide
  dot_S1024x4096_S4096x2048_S1024x2048_1_0_0_1_n_n_wf := by decide

set_option backward.proofsInPublic true in
/-- The facts the precondition states of whole arrays. -/
theorem clip_facts_whole : Cert.Pre_within_clip_ReferenceIdeal.Facts where
  bcast_S1_S1x1_1 := by decide
  bcast_S1x1_S4096x2048_0_1 := by decide
  bcast_S_S4096x2048 := by decide
  dot_S4096x4096_S4096x2048_S4096x2048_1_0_0_1_n_n_wf := by decide

section Pre
open Cert.Pre_within_clip_KernelIdeal

/-- A bit that two comparisons share is set only if both hold. -/
theorem cmp_and_le {lo y hi : EReal} (h : IntOp.andi (Ideal.cmp .oge y lo) (Ideal.cmp .ole y hi) = 1#1) : lo ≤ y ∧ y ≤ hi := by
  unfold IntOp.andi Ideal.cmp at h
  by_cases h1 : lo ≤ y <;> by_cases h2 : y ≤ hi
  · exact ⟨h1, h2⟩
  all_goals simp [h1, h2] at h

/-- The precondition at an entry: both comparisons of the scaled product. -/
theorem fn_apply [Cert.Pre_within_clip_KernelIdeal.Facts] (X : FVec Ideal S1024x4096 .f32) (W : FVec Ideal S4096x2048 .f32) (a b : FVec Ideal S1 .f32) (i : S1024x2048.Idx) :
    fn (F := Ideal) X W a b i = IntOp.andi
      (Ideal.cmp .oge (mulf (Host.dotGeneral dot_S1024x4096_S4096x2048_S1024x2048_1_0_0_1_n_n none X W)
        (broadcastInDim S1024x2048 ![0, 1] Facts.bcast_S1x1_S1024x2048_0_1 (broadcastInDim S1x1 ![1] Facts.bcast_S1_S1x1_1 (mulf a b))) i)
        (Ideal.ofBits .f32 0xC2700000#32))
      (Ideal.cmp .ole (mulf (Host.dotGeneral dot_S1024x4096_S4096x2048_S1024x2048_1_0_0_1_n_n none X W)
        (broadcastInDim S1024x2048 ![0, 1] Facts.bcast_S1x1_S1024x2048_0_1 (broadcastInDim S1x1 ![1] Facts.bcast_S1_S1x1_1 (mulf a b))) i)
        (Ideal.ofBits .f32 0x42700000#32)) := by
  unfold fn
  generalize mulf (Host.dotGeneral dot_S1024x4096_S4096x2048_S1024x2048_1_0_0_1_n_n none X W)
        (broadcastInDim S1024x2048 ![0, 1] Facts.bcast_S1x1_S1024x2048_0_1 (broadcastInDim S1x1 ![1] Facts.bcast_S1_S1x1_1 (mulf a b))) = y
  rfl

/-- Under the precondition every entry of the device's scaled product lies between the bounds of the clip. -/
theorem within_of_pre [Cert.Pre_within_clip_KernelIdeal.Facts] (X : FVec Ideal S1024x4096 .f32) (W : FVec Ideal S4096x2048 .f32) (a b : FVec Ideal S1 .f32)
    (h : fn (F := Ideal) X W a b = fun _ => 1#1) (r : Fin 1024) (j : Fin 2048) :
    Ideal.ofBits .f32 0xC2700000#32 ≤ dotScaled (fun k => X (ix2 r k)) (fun k => W (ix2 k j)) ((a : S1.Idx → EReal) ix1 * (b : S1.Idx → EReal) ix1)
    ∧ dotScaled (fun k => X (ix2 r k)) (fun k => W (ix2 k j)) ((a : S1.Idx → EReal) ix1 * (b : S1.Idx → EReal) ix1) ≤ Ideal.ofBits .f32 0x42700000#32 := by
  have e := host_dot_apply (M := 1024) X W a b Facts.bcast_S1_S1x1_1 Facts.bcast_S1x1_S1024x2048_0_1 r j
  have h' : fn (F := Ideal) X W a b (ix2 r j) = 1#1 := congrFun h (ix2 r j)
  rw [fn_apply] at h'
  have e' := cmp_and_le h'
  exact ⟨e'.1.trans_eq e, e.symm.trans_le e'.2⟩

end Pre

end Cert.KProof

end
-- ==== Proof.Equation.lean ====
/-
# The output of every device is its block of the reference's result
-/
module

public import proofs.«01_k».proof.Proof.References

@[expose] public section

noncomputable section

namespace Cert.KProof

open Cert.KernelIdeal Cert.KernelIdeal.Gen

open Idealize.ShloMosaic
open Idealize.ShloMosaic.TcCoe
open Idealize.ShloMosaic.ValueIdx
open Idealize.SL.Sem
open scoped BigOperators

variable (m : (ℓ : Loc nD τ sig) → Buf (Elt Ideal) ℓ)

/-- The argument buffers of the four devices hold their parts of the whole arrays: block `c` of the rows of `X`, and copies
    of `W` and of the two scales. -/
def Parts (X : FVec Ideal ⟨2, ![4096, 4096]⟩ .f32) (W : FVec Ideal ⟨2, ![4096, 2048]⟩ .f32) (a b : FVec Ideal ⟨1, ![1]⟩ .f32) : Prop :=
  ∀ c : Dev nD, m ((c : Thread nD τ).loc main_arg0) = Layout.block ⟨2, ![1024, 4096]⟩ ⟨2, ![4096, 4096]⟩ 0 4 c X
    ∧ m ((c : Thread nD τ).loc main_arg1) = W ∧ m ((c : Thread nD τ).loc main_arg2) = a ∧ m ((c : Thread nD τ).loc main_arg3) = b

variable {m} {X : FVec Ideal ⟨2, ![4096, 4096]⟩ .f32} {W : FVec Ideal ⟨2, ![4096, 2048]⟩ .f32} {a b : FVec Ideal ⟨1, ![1]⟩ .f32}

/-- Row `r` of block `o` of the rows, as a row of the whole. -/
def wholeRow (o : Fin 4) (r : Fin 1024) : Fin 4096 := ⟨o.val * 1024 + r.val, by omega⟩
/-- Column `j` of block `c` of the columns, as a column of the whole. -/
def wholeCol (c : Fin 4) (j : Fin 512) : Fin 2048 := ⟨c.val * 512 + j.val, by omega⟩

/-- Device `o`'s rows of `x` are rows of the whole. -/
theorem rows_apply (h : Parts m X W a b) (o : Dev nD) (r : Fin 1024) (k : Fin 4096) :
    (m ((o : Thread nD τ).loc main_arg0) : S1024x4096.Idx → EReal) (ix2 r k) = X (ix2 (wholeRow o r) k) := by
  rw [(h o).1]
  refine (Layout.block_apply o X _ (ix2 r k)).trans (congrArg X ?_)
  funext d; apply Fin.ext
  match d with
  | ⟨0, _⟩ => rfl
  | ⟨1, _⟩ => rfl

/-- Entry (r, j) of the row block `o` of device `c` is the silu of the whole product there. -/
theorem oblk_whole (h : Parts m X W a b) (c o : Dev nD) (r : Fin 1024) (j : Fin 512) :
    oblk m c o (ix2 r j) = silu (prod X W a b (wholeRow o r) (wholeCol c j)) := by
  rw [oblk_apply]
  have e0 : (fun k => (m ((o : Thread nD τ).loc main_arg0) : S1024x4096.Idx → EReal) (ix2 r k)) = fun k => X (ix2 (wholeRow o r) k) :=
    funext (rows_apply h o r)
  have es : scl m o = ((a : (⟨1, ![1]⟩ : Shape).Idx → EReal) ix1 * (b : (⟨1, ![1]⟩ : Shape).Idx → EReal) ix1) := by
    rw [← (h o).2.2.1, ← (h o).2.2.2]; rfl
  rw [e0, es, (h o).2.1]
  unfold prod
  refine congrArg silu (congrArg (fun w => dotScaled _ w _) (funext fun k => congrArg W ?_))
  exact congrArg (ix2 k) (Fin.ext (by show 512 * c.val + j.val = c.val * 512 + j.val; omega))

/-- An array of the result's shape that is the silu of the whole product has the devices' outputs for blocks. -/
theorem outAt_block (h : Parts m X W a b) (v : FVec Ideal ⟨2, ![4096, 2048]⟩ .f32)
    (hv : ∀ r j, v (ix2 r j) = silu (prod X W a b r j)) (c : Dev nD) :
    (outAt m c : Vec Ideal S4096x512 .f32) = Layout.block ⟨2, ![4096, 512]⟩ ⟨2, ![4096, 2048]⟩ 1 4 c v := by
  funext y
  have ey : rowIn y = ix2 (⟨(y 0).val % 1024, Nat.mod_lt _ (by decide)⟩ : Fin 1024) (y 1 : Fin 512) := by
    funext d; apply Fin.ext
    match d with
    | ⟨0, _⟩ => rfl
    | ⟨1, _⟩ => rfl
  refine (congrArg (oblk m c (rowBlk y)) ey).trans ((oblk_whole h c (rowBlk y) _ (y 1)).trans ((hv _ _).symm.trans ?_))
  refine Eq.symm ((Layout.block_apply c v _ y).trans (congrArg v ?_))
  funext d; apply Fin.ext
  match d with
  | ⟨0, _⟩ => show (y 0).val = (y 0).val / 1024 * 1024 + (y 0).val % 1024; omega
  | ⟨1, _⟩ => rfl

/-- So they are of the reference without the clip, from any arguments. -/
theorem out_silu (h : Parts m X W a b) (c : Dev nD) :
    (outAt m c : Vec Ideal S4096x512 .f32) = Layout.block ⟨2, ![4096, 512]⟩ ⟨2, ![4096, 2048]⟩ 1 4 c (siluTerm X W a b) :=
  outAt_block h _ (siluTerm_apply X W a b) c

/-- The precondition on device `o` bounds its rows of the whole product. -/
theorem within_whole [Cert.Pre_within_clip_KernelIdeal.Facts] (h : Parts m X W a b) (o : Dev nD)
    (hp : Cert.Pre_within_clip_KernelIdeal.fn (F := Ideal) (m ((o : Thread nD τ).loc main_arg0)) (m ((o : Thread nD τ).loc main_arg1))
      (m ((o : Thread nD τ).loc main_arg2)) (m ((o : Thread nD τ).loc main_arg3)) = fun _ => 1#1) (r : Fin 1024) (j : Fin 2048) :
    Ideal.ofBits .f32 0xC2700000#32 ≤ prod X W a b (wholeRow o r) j ∧ prod X W a b (wholeRow o r) j ≤ Ideal.ofBits .f32 0x42700000#32 := by
  have e0 : (fun k => (m ((o : Thread nD τ).loc main_arg0) : S1024x4096.Idx → EReal) (ix2 r k)) = fun k => X (ix2 (wholeRow o r) k) :=
    funext (rows_apply h o r)
  rw [(h o).2.1, (h o).2.2.1, (h o).2.2.2] at hp
  have hw := within_of_pre _ W a b hp r j
  rw [e0] at hw
  exact hw

/-- And of the reference with the clip, where the precondition holds on every device. -/
theorem out_clip [Cert.Pre_within_clip_KernelIdeal.Facts] (h : Parts m X W a b)
    (hp : ∀ c : Dev nD, Cert.Pre_within_clip_KernelIdeal.fn (F := Ideal) (m ((c : Thread nD τ).loc main_arg0)) (m ((c : Thread nD τ).loc main_arg1))
      (m ((c : Thread nD τ).loc main_arg2)) (m ((c : Thread nD τ).loc main_arg3)) = fun _ => 1#1) (c : Dev nD) :
    (outAt m c : Vec Ideal S4096x512 .f32) = Layout.block ⟨2, ![4096, 512]⟩ ⟨2, ![4096, 2048]⟩ 1 4 c (clipTerm X W a b) := by
  refine outAt_block h _ (fun r j => ?_) c
  have hr : r.val / 1024 < 4 := by omega
  have er : r = wholeRow ⟨r.val / 1024, hr⟩ ⟨r.val % 1024, Nat.mod_lt _ (by decide)⟩ :=
    Fin.ext (by show r.val = r.val / 1024 * 1024 + r.val % 1024; omega)
  have hw := within_whole h ⟨r.val / 1024, hr⟩ (hp _) ⟨r.val % 1024, Nat.mod_lt _ (by decide)⟩ j
  rw [← er] at hw
  exact clipTerm_apply X W a b r j hw.1 hw.2

end Cert.KProof

end
-- ==== Proof.Claims.lean ====
/-
# The claims, each from a run
-/
module

public import proofs.«01_k».proof.Defs
public import proofs.«01_k».proof.Proof.Gen.Kernel
public import Idealize.ShloMosaic.Lib.Claim
public import proofs.«01_k».proof.Proof.Run
public import proofs.«01_k».proof.Proof.Equation

@[expose] public section

noncomputable section

namespace Cert.KProof

open Idealize.ShloMosaic
open Idealize.ShloMosaic.TcCoe
open Idealize.SL.Sem

/-- The two programs are one text, so their bodies are equal. -/
theorem main_same : (Cert.Kernel.main (F := Bits) : Dev Cert.KernelIdeal.nD → _) = Cert.KernelIdeal.main (F := Bits) := rfl

/-- So are the tables of the kernels' bodies: each has one entry, the body. -/
theorem defs₀_same : (Cert.Kernel.defs₀ (F := Bits) : Defs Cert.KernelIdeal.nD Cert.KernelIdeal.τ Cert.KernelIdeal.sig (Elt Bits) Cert.KernelIdeal.Λ₀)
    = Cert.KernelIdeal.defs₀ (F := Bits) := by
  unfold Cert.Kernel.defs₀ Cert.KernelIdeal.defs₀
  refine congrArg Defs.onTc ?_
  funext l x
  match l, x with
  | ⟨0, _⟩, (t, s) => rfl

/-- And the tables of all their functions. -/
theorem defs_same : (Cert.Kernel.defs (F := Bits) : Defs Cert.KernelIdeal.nD Cert.KernelIdeal.τ Cert.KernelIdeal.sig (Elt Bits) _)
    = Cert.KernelIdeal.defs (F := Bits) :=
  congrArg (Pipeline.defs (Cert.KernelIdeal.pcfgs (F := Bits))) defs₀_same

/-- The kernel on float words: it runs, its arguments end unchanged, its semaphores at zero. -/
theorem frame_kernel : Cert.quiescent_Kernel := by
  intro m ρ _
  have h := run_main (F := Bits) m ρ
  rw [← main_same, ← defs_same] at h
  exact (θ_run (Cert.Kernel.defs (F := Bits)) _ _).mono (fun _ h => ⟨fun c => ⟨(h.1 c).1, (h.1 c).2.1, (h.1 c).2.2.1, (h.1 c).2.2.2.1⟩, h.2⟩) h

/-- The same over the extended reals. -/
theorem frame_kernelIdeal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (run_main (F := Ideal) m ρ)

/-- The reference with the clip runs, with its arguments unchanged; it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference without the clip likewise. -/
theorem frame_silu : Cert.quiescent_SiluIdeal := fun m ρ _ =>
  (θ_run Cert.SiluIdeal.defs _ _).mono
    (fun r h => ⟨fun c => (h c).2, Idealize.ShloMosaic.sem_eq_zero_of_no_sems (by decide) r.2⟩)
    (Cert.SiluIdeal.Value.run (F := Ideal) m ρ)

/-- Device `c` ends with block `c` of the columns of the reference without the clip, from any arguments. -/
theorem value_silu : Cert.algebraic_KernelIdeal_SiluIdeal := by
  intro m g m' g' _ hm
  refine ⟨siluTerm (m' (((0 : Dev Cert.SiluIdeal.nD).tc : Thread Cert.SiluIdeal.nD Cert.SiluIdeal.τ).loc Cert.SiluIdeal.main_arg0))
    (m' (((0 : Dev Cert.SiluIdeal.nD).tc : Thread Cert.SiluIdeal.nD Cert.SiluIdeal.τ).loc Cert.SiluIdeal.main_arg1))
    (m' (((0 : Dev Cert.SiluIdeal.nD).tc : Thread Cert.SiluIdeal.nD Cert.SiluIdeal.τ).loc Cert.SiluIdeal.main_arg2))
    (m' (((0 : Dev Cert.SiluIdeal.nD).tc : Thread Cert.SiluIdeal.nD Cert.SiluIdeal.τ).loc Cert.SiluIdeal.main_arg3)), ?_, ?_⟩
  · refine (θ_run Cert.KernelIdeal.defs _ _).mono (fun r h c => ?_) (run_main (F := Ideal) m g)
    exact ⟨(h.1 c).2.2.2.2.trans (out_silu hm c), (h.1 c).1, (h.1 c).2.1, (h.1 c).2.2.1, (h.1 c).2.2.2.1⟩
  · refine (θ_run Cert.SiluIdeal.defs _ _).mono (fun r h => ?_) (Cert.SiluIdeal.Value.run (F := Ideal) m' g')
    exact h 0

/-- Device `c` ends with block `c` of the columns of the reference with the clip, where no entry of the scaled product
    passes the bounds of the clip. -/
theorem value_clip [Cert.Pre_within_clip_KernelIdeal.Facts] : Cert.algebraic_KernelIdeal_ReferenceIdeal_pre_within_clip_KernelIdeal := by
  intro m g m' g' hp hm
  refine ⟨clipTerm (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ?_) (run_main (F := Ideal) m g)
    exact ⟨(h.1 c).2.2.2.2.trans (out_clip hm hp c), (h.1 c).1, (h.1 c).2.1, (h.1 c).2.2.1, (h.1 c).2.2.2.1⟩
  · refine (θ_run Cert.ReferenceIdeal.defs _ _).mono (fun r h => ?_) (Cert.ReferenceIdeal.Value.run (F := Ideal) m' g')
    exact h 0

end Cert.KProof

end
-- ==== Proof.lean ====
/-
The certificate: the frames of the kernel at both instances and of the two references, the kernel over the extended reals as
the ideal program, and its value, against reference.py's lines under the precondition that the clip is the identity and
against the same lines without the clip from any arguments. Each is a theorem of `Proof/Claims.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.SiluIdeal.Gen.facts,
    Cert.KProof.clip_facts, Cert.KProof.clip_facts_whole,
    Cert.KProof.frame_kernel, Cert.KProof.frame_kernelIdeal,
    fun m ρ _ => Cert.KProof.frame_kernelIdeal m ρ trivial, Cert.KProof.frame_reference,
    fun m ρ _ => Cert.KProof.frame_reference m ρ trivial, Cert.KProof.frame_silu,
    trivial, @Cert.KProof.value_clip Cert.KProof.clip_facts, Cert.KProof.value_silu⟩

end Cert.Proof

end
